-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S1x256x512 : Shape := ⟨3, ![1, 256, 512]⟩
abbrev S256x512 : Shape := ⟨2, ![256, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .f32⟩
  | .local _ .vmem, ⟨4, _⟩ => ⟨S512x512, .bf16⟩
  | .local _ .vmem, ⟨5, _⟩ => ⟨S32x16x512, .bf16⟩
  | .local _ .vmem, ⟨6, _⟩ => ⟨S512x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_297 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v441 : BitVec 32 := Scalar.addi v2 c1_i32_297
  let c32_i32_298 : BitVec 32 := 32#32
  let c0_i32_299 : BitVec 32 := 0#32
  let v442 : BitVec 1 := Scalar.cmpi .eq c32_i32_298 c0_i32_299
  let c1_i32_300 : BitVec 32 := 1#32
  let v443 : BitVec 32 := Scalar.select v442 c1_i32_300 c32_i32_298
  let v444 : BitVec 32 := Scalar.remsi v441 v443
  let c0_i32_302 : BitVec 32 := 0#32
  let v446 : BitVec 1 := Scalar.cmpi .slt v444 c0_i32_302
  let c0_i32_303 : BitVec 32 := 0#32
  let v447 : BitVec 1 := Scalar.cmpi .slt v443 c0_i32_303
  let v448 : BitVec 1 := Scalar.xori v446 v447
  let c0_i32_301 : BitVec 32 := 0#32
  let v445 : BitVec 1 := Scalar.cmpi .ne v444 c0_i32_301
  let v449 : BitVec 1 := Scalar.andi v448 v445
  let v450 : BitVec 32 := Scalar.addi v444 v443
  let v451 : BitVec 32 := Scalar.select v449 v450 v444
  let c16_i32_304 : BitVec 32 := 16#32
  let v452 : BitVec 32 := Scalar.muli v451 c16_i32_304
  let c0_i32_312 : BitVec 32 := 0#32
  ![v452.toNat, 0]
def k0_dev32 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_297 : BitVec 32 := 1#32
  let v441 : BitVec 32 := Scalar.addi v2 c1_i32_297
  let c32_i32_298 : BitVec 32 := 32#32
  let c0_i32_299 : BitVec 32 := 0#32
  let v442 : BitVec 1 := Scalar.cmpi .eq c32_i32_298 c0_i32_299
  let c1_i32_300 : BitVec 32 := 1#32
  let v443 : BitVec 32 := Scalar.select v442 c1_i32_300 c32_i32_298
  let v444 : BitVec 32 := Scalar.remsi v441 v443
  let c0_i32_302 : BitVec 32 := 0#32
  let v446 : BitVec 1 := Scalar.cmpi .slt v444 c0_i32_302
  let c0_i32_303 : BitVec 32 := 0#32
  let v447 : BitVec 1 := Scalar.cmpi .slt v443 c0_i32_303
  let v448 : BitVec 1 := Scalar.xori v446 v447
  let c0_i32_301 : BitVec 32 := 0#32
  let v445 : BitVec 1 := Scalar.cmpi .ne v444 c0_i32_301
  let v449 : BitVec 1 := Scalar.andi v448 v445
  let v450 : BitVec 32 := Scalar.addi v444 v443
  let v451 : BitVec 32 := Scalar.select v449 v450 v444
  let c1_i32_308 : BitVec 32 := 1#32
  let v453 : BitVec 32 := Scalar.muli v451 c1_i32_308
  let v454 : BitVec 32 := Scalar.addi c0_i32_309 v453
  v454.toNat
def k0_dev33 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_313 : BitVec 32 := 2#32
  let v462 : BitVec 32 := Scalar.addi v2 c2_i32_313
  let c32_i32_314 : BitVec 32 := 32#32
  let c0_i32_315 : BitVec 32 := 0#32
  let v463 : BitVec 1 := Scalar.cmpi .eq c32_i32_314 c0_i32_315
  let c1_i32_316 : BitVec 32 := 1#32
  let v464 : BitVec 32 := Scalar.select v463 c1_i32_316 c32_i32_314
  let v465 : BitVec 32 := Scalar.remsi v462 v464
  let c0_i32_318 : BitVec 32 := 0#32
  let v467 : BitVec 1 := Scalar.cmpi .slt v465 c0_i32_318
  let c0_i32_319 : BitVec 32 := 0#32
  let v468 : BitVec 1 := Scalar.cmpi .slt v464 c0_i32_319
  let v469 : BitVec 1 := Scalar.xori v467 v468
  let c0_i32_317 : BitVec 32 := 0#32
  let v466 : BitVec 1 := Scalar.cmpi .ne v465 c0_i32_317
  let v470 : BitVec 1 := Scalar.andi v469 v466
  let v471 : BitVec 32 := Scalar.addi v465 v464
  let v472 : BitVec 32 := Scalar.select v470 v471 v465
  let c1_i32_324 : BitVec 32 := 1#32
  let v474 : BitVec 32 := Scalar.muli v472 c1_i32_324
  let v475 : BitVec 32 := Scalar.addi c0_i32_325 v474
  v475.toNat
def k0_dev34 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_329 : BitVec 32 := 3#32
  let v483 : BitVec 32 := Scalar.addi v2 c3_i32_329
  let c32_i32_330 : BitVec 32 := 32#32
  let c0_i32_331 : BitVec 32 := 0#32
  let v484 : BitVec 1 := Scalar.cmpi .eq c32_i32_330 c0_i32_331
  let c1_i32_332 : BitVec 32 := 1#32
  let v485 : BitVec 32 := Scalar.select v484 c1_i32_332 c32_i32_330
  let v486 : BitVec 32 := Scalar.remsi v483 v485
  let c0_i32_334 : BitVec 32 := 0#32
  let v488 : BitVec 1 := Scalar.cmpi .slt v486 c0_i32_334
  let c0_i32_335 : BitVec 32 := 0#32
  let v489 : BitVec 1 := Scalar.cmpi .slt v485 c0_i32_335
  let v490 : BitVec 1 := Scalar.xori v488 v489
  let c0_i32_333 : BitVec 32 := 0#32
  let v487 : BitVec 1 := Scalar.cmpi .ne v486 c0_i32_333
  let v491 : BitVec 1 := Scalar.andi v490 v487
  let v492 : BitVec 32 := Scalar.addi v486 v485
  let v493 : BitVec 32 := Scalar.select v491 v492 v486
  let c1_i32_340 : BitVec 32 := 1#32
  let v495 : BitVec 32 := Scalar.muli v493 c1_i32_340
  let v496 : BitVec 32 := Scalar.addi c0_i32_341 v495
  v496.toNat
def k0_dev35 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_345 : BitVec 32 := 4#32
  let v504 : BitVec 32 := Scalar.addi v2 c4_i32_345
  let c32_i32_346 : BitVec 32 := 32#32
  let c0_i32_347 : BitVec 32 := 0#32
  let v505 : BitVec 1 := Scalar.cmpi .eq c32_i32_346 c0_i32_347
  let c1_i32_348 : BitVec 32 := 1#32
  let v506 : BitVec 32 := Scalar.select v505 c1_i32_348 c32_i32_346
  let v507 : BitVec 32 := Scalar.remsi v504 v506
  let c0_i32_350 : BitVec 32 := 0#32
  let v509 : BitVec 1 := Scalar.cmpi .slt v507 c0_i32_350
  let c0_i32_351 : BitVec 32 := 0#32
  let v510 : BitVec 1 := Scalar.cmpi .slt v506 c0_i32_351
  let v511 : BitVec 1 := Scalar.xori v509 v510
  let c0_i32_349 : BitVec 32 := 0#32
  let v508 : BitVec 1 := Scalar.cmpi .ne v507 c0_i32_349
  let v512 : BitVec 1 := Scalar.andi v511 v508
  let v513 : BitVec 32 := Scalar.addi v507 v506
  let v514 : BitVec 32 := Scalar.select v512 v513 v507
  let c1_i32_356 : BitVec 32 := 1#32
  let v516 : BitVec 32 := Scalar.muli v514 c1_i32_356
  let v517 : BitVec 32 := Scalar.addi c0_i32_357 v516
  v517.toNat
def k0_dev36 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_361 : BitVec 32 := 5#32
  let v525 : BitVec 32 := Scalar.addi v2 c5_i32_361
  let c32_i32_362 : BitVec 32 := 32#32
  let c0_i32_363 : BitVec 32 := 0#32
  let v526 : BitVec 1 := Scalar.cmpi .eq c32_i32_362 c0_i32_363
  let c1_i32_364 : BitVec 32 := 1#32
  let v527 : BitVec 32 := Scalar.select v526 c1_i32_364 c32_i32_362
  let v528 : BitVec 32 := Scalar.remsi v525 v527
  let c0_i32_366 : BitVec 32 := 0#32
  let v530 : BitVec 1 := Scalar.cmpi .slt v528 c0_i32_366
  let c0_i32_367 : BitVec 32 := 0#32
  let v531 : BitVec 1 := Scalar.cmpi .slt v527 c0_i32_367
  let v532 : BitVec 1 := Scalar.xori v530 v531
  let c0_i32_365 : BitVec 32 := 0#32
  let v529 : BitVec 1 := Scalar.cmpi .ne v528 c0_i32_365
  let v533 : BitVec 1 := Scalar.andi v532 v529
  let v534 : BitVec 32 := Scalar.addi v528 v527
  let v535 : BitVec 32 := Scalar.select v533 v534 v528
  let c1_i32_372 : BitVec 32 := 1#32
  let v537 : BitVec 32 := Scalar.muli v535 c1_i32_372
  let v538 : BitVec 32 := Scalar.addi c0_i32_373 v537
  v538.toNat
def k0_dev37 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_377 : BitVec 32 := 6#32
  let v546 : BitVec 32 := Scalar.addi v2 c6_i32_377
  let c32_i32_378 : BitVec 32 := 32#32
  let c0_i32_379 : BitVec 32 := 0#32
  let v547 : BitVec 1 := Scalar.cmpi .eq c32_i32_378 c0_i32_379
  let c1_i32_380 : BitVec 32 := 1#32
  let v548 : BitVec 32 := Scalar.select v547 c1_i32_380 c32_i32_378
  let v549 : BitVec 32 := Scalar.remsi v546 v548
  let c0_i32_382 : BitVec 32 := 0#32
  let v551 : BitVec 1 := Scalar.cmpi .slt v549 c0_i32_382
  let c0_i32_383 : BitVec 32 := 0#32
  let v552 : BitVec 1 := Scalar.cmpi .slt v548 c0_i32_383
  let v553 : BitVec 1 := Scalar.xori v551 v552
  let c0_i32_381 : BitVec 32 := 0#32
  let v550 : BitVec 1 := Scalar.cmpi .ne v549 c0_i32_381
  let v554 : BitVec 1 := Scalar.andi v553 v550
  let v555 : BitVec 32 := Scalar.addi v549 v548
  let v556 : BitVec 32 := Scalar.select v554 v555 v549
  let c1_i32_388 : BitVec 32 := 1#32
  let v558 : BitVec 32 := Scalar.muli v556 c1_i32_388
  let v559 : BitVec 32 := Scalar.addi c0_i32_389 v558
  v559.toNat
def k0_dev38 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_393 : BitVec 32 := 7#32
  let v567 : BitVec 32 := Scalar.addi v2 c7_i32_393
  let c32_i32_394 : BitVec 32 := 32#32
  let c0_i32_395 : BitVec 32 := 0#32
  let v568 : BitVec 1 := Scalar.cmpi .eq c32_i32_394 c0_i32_395
  let c1_i32_396 : BitVec 32 := 1#32
  let v569 : BitVec 32 := Scalar.select v568 c1_i32_396 c32_i32_394
  let v570 : BitVec 32 := Scalar.remsi v567 v569
  let c0_i32_398 : BitVec 32 := 0#32
  let v572 : BitVec 1 := Scalar.cmpi .slt v570 c0_i32_398
  let c0_i32_399 : BitVec 32 := 0#32
  let v573 : BitVec 1 := Scalar.cmpi .slt v569 c0_i32_399
  let v574 : BitVec 1 := Scalar.xori v572 v573
  let c0_i32_397 : BitVec 32 := 0#32
  let v571 : BitVec 1 := Scalar.cmpi .ne v570 c0_i32_397
  let v575 : BitVec 1 := Scalar.andi v574 v571
  let v576 : BitVec 32 := Scalar.addi v570 v569
  let v577 : BitVec 32 := Scalar.select v575 v576 v570
  let c1_i32_404 : BitVec 32 := 1#32
  let v579 : BitVec 32 := Scalar.muli v577 c1_i32_404
  let v580 : BitVec 32 := Scalar.addi c0_i32_405 v579
  v580.toNat
def k0_dev39 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_409 : BitVec 32 := 8#32
  let v588 : BitVec 32 := Scalar.addi v2 c8_i32_409
  let c32_i32_410 : BitVec 32 := 32#32
  let c0_i32_411 : BitVec 32 := 0#32
  let v589 : BitVec 1 := Scalar.cmpi .eq c32_i32_410 c0_i32_411
  let c1_i32_412 : BitVec 32 := 1#32
  let v590 : BitVec 32 := Scalar.select v589 c1_i32_412 c32_i32_410
  let v591 : BitVec 32 := Scalar.remsi v588 v590
  let c0_i32_414 : BitVec 32 := 0#32
  let v593 : BitVec 1 := Scalar.cmpi .slt v591 c0_i32_414
  let c0_i32_415 : BitVec 32 := 0#32
  let v594 : BitVec 1 := Scalar.cmpi .slt v590 c0_i32_415
  let v595 : BitVec 1 := Scalar.xori v593 v594
  let c0_i32_413 : BitVec 32 := 0#32
  let v592 : BitVec 1 := Scalar.cmpi .ne v591 c0_i32_413
  let v596 : BitVec 1 := Scalar.andi v595 v592
  let v597 : BitVec 32 := Scalar.addi v591 v590
  let v598 : BitVec 32 := Scalar.select v596 v597 v591
  let c1_i32_420 : BitVec 32 := 1#32
  let v600 : BitVec 32 := Scalar.muli v598 c1_i32_420
  let v601 : BitVec 32 := Scalar.addi c0_i32_421 v600
  v601.toNat
def k0_dev40 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_425 : BitVec 32 := 9#32
  let v609 : BitVec 32 := Scalar.addi v2 c9_i32_425
  let c32_i32_426 : BitVec 32 := 32#32
  let c0_i32_427 : BitVec 32 := 0#32
  let v610 : BitVec 1 := Scalar.cmpi .eq c32_i32_426 c0_i32_427
  let c1_i32_428 : BitVec 32 := 1#32
  let v611 : BitVec 32 := Scalar.select v610 c1_i32_428 c32_i32_426
  let v612 : BitVec 32 := Scalar.remsi v609 v611
  let c0_i32_430 : BitVec 32 := 0#32
  let v614 : BitVec 1 := Scalar.cmpi .slt v612 c0_i32_430
  let c0_i32_431 : BitVec 32 := 0#32
  let v615 : BitVec 1 := Scalar.cmpi .slt v611 c0_i32_431
  let v616 : BitVec 1 := Scalar.xori v614 v615
  let c0_i32_429 : BitVec 32 := 0#32
  let v613 : BitVec 1 := Scalar.cmpi .ne v612 c0_i32_429
  let v617 : BitVec 1 := Scalar.andi v616 v613
  let v618 : BitVec 32 := Scalar.addi v612 v611
  let v619 : BitVec 32 := Scalar.select v617 v618 v612
  let c1_i32_436 : BitVec 32 := 1#32
  let v621 : BitVec 32 := Scalar.muli v619 c1_i32_436
  let v622 : BitVec 32 := Scalar.addi c0_i32_437 v621
  v622.toNat
def k0_dev41 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_441 : BitVec 32 := 10#32
  let v630 : BitVec 32 := Scalar.addi v2 c10_i32_441
  let c32_i32_442 : BitVec 32 := 32#32
  let c0_i32_443 : BitVec 32 := 0#32
  let v631 : BitVec 1 := Scalar.cmpi .eq c32_i32_442 c0_i32_443
  let c1_i32_444 : BitVec 32 := 1#32
  let v632 : BitVec 32 := Scalar.select v631 c1_i32_444 c32_i32_442
  let v633 : BitVec 32 := Scalar.remsi v630 v632
  let c0_i32_446 : BitVec 32 := 0#32
  let v635 : BitVec 1 := Scalar.cmpi .slt v633 c0_i32_446
  let c0_i32_447 : BitVec 32 := 0#32
  let v636 : BitVec 1 := Scalar.cmpi .slt v632 c0_i32_447
  let v637 : BitVec 1 := Scalar.xori v635 v636
  let c0_i32_445 : BitVec 32 := 0#32
  let v634 : BitVec 1 := Scalar.cmpi .ne v633 c0_i32_445
  let v638 : BitVec 1 := Scalar.andi v637 v634
  let v639 : BitVec 32 := Scalar.addi v633 v632
  let v640 : BitVec 32 := Scalar.select v638 v639 v633
  let c1_i32_452 : BitVec 32 := 1#32
  let v642 : BitVec 32 := Scalar.muli v640 c1_i32_452
  let v643 : BitVec 32 := Scalar.addi c0_i32_453 v642
  v643.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_457 : BitVec 32 := 11#32
  let v651 : BitVec 32 := Scalar.addi v2 c11_i32_457
  let c32_i32_458 : BitVec 32 := 32#32
  let c0_i32_459 : BitVec 32 := 0#32
  let v652 : BitVec 1 := Scalar.cmpi .eq c32_i32_458 c0_i32_459
  let c1_i32_460 : BitVec 32 := 1#32
  let v653 : BitVec 32 := Scalar.select v652 c1_i32_460 c32_i32_458
  let v654 : BitVec 32 := Scalar.remsi v651 v653
  let c0_i32_462 : BitVec 32 := 0#32
  let v656 : BitVec 1 := Scalar.cmpi .slt v654 c0_i32_462
  let c0_i32_463 : BitVec 32 := 0#32
  let v657 : BitVec 1 := Scalar.cmpi .slt v653 c0_i32_463
  let v658 : BitVec 1 := Scalar.xori v656 v657
  let c0_i32_461 : BitVec 32 := 0#32
  let v655 : BitVec 1 := Scalar.cmpi .ne v654 c0_i32_461
  let v659 : BitVec 1 := Scalar.andi v658 v655
  let v660 : BitVec 32 := Scalar.addi v654 v653
  let v661 : BitVec 32 := Scalar.select v659 v660 v654
  let c1_i32_468 : BitVec 32 := 1#32
  let v663 : BitVec 32 := Scalar.muli v661 c1_i32_468
  let v664 : BitVec 32 := Scalar.addi c0_i32_469 v663
  v664.toNat
def k0_dev43 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_473 : BitVec 32 := 12#32
  let v672 : BitVec 32 := Scalar.addi v2 c12_i32_473
  let c32_i32_474 : BitVec 32 := 32#32
  let c0_i32_475 : BitVec 32 := 0#32
  let v673 : BitVec 1 := Scalar.cmpi .eq c32_i32_474 c0_i32_475
  let c1_i32_476 : BitVec 32 := 1#32
  let v674 : BitVec 32 := Scalar.select v673 c1_i32_476 c32_i32_474
  let v675 : BitVec 32 := Scalar.remsi v672 v674
  let c0_i32_478 : BitVec 32 := 0#32
  let v677 : BitVec 1 := Scalar.cmpi .slt v675 c0_i32_478
  let c0_i32_479 : BitVec 32 := 0#32
  let v678 : BitVec 1 := Scalar.cmpi .slt v674 c0_i32_479
  let v679 : BitVec 1 := Scalar.xori v677 v678
  let c0_i32_477 : BitVec 32 := 0#32
  let v676 : BitVec 1 := Scalar.cmpi .ne v675 c0_i32_477
  let v680 : BitVec 1 := Scalar.andi v679 v676
  let v681 : BitVec 32 := Scalar.addi v675 v674
  let v682 : BitVec 32 := Scalar.select v680 v681 v675
  let c1_i32_484 : BitVec 32 := 1#32
  let v684 : BitVec 32 := Scalar.muli v682 c1_i32_484
  let v685 : BitVec 32 := Scalar.addi c0_i32_485 v684
  v685.toNat
def k0_dev44 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_489 : BitVec 32 := 13#32
  let v693 : BitVec 32 := Scalar.addi v2 c13_i32_489
  let c32_i32_490 : BitVec 32 := 32#32
  let c0_i32_491 : BitVec 32 := 0#32
  let v694 : BitVec 1 := Scalar.cmpi .eq c32_i32_490 c0_i32_491
  let c1_i32_492 : BitVec 32 := 1#32
  let v695 : BitVec 32 := Scalar.select v694 c1_i32_492 c32_i32_490
  let v696 : BitVec 32 := Scalar.remsi v693 v695
  let c0_i32_494 : BitVec 32 := 0#32
  let v698 : BitVec 1 := Scalar.cmpi .slt v696 c0_i32_494
  let c0_i32_495 : BitVec 32 := 0#32
  let v699 : BitVec 1 := Scalar.cmpi .slt v695 c0_i32_495
  let v700 : BitVec 1 := Scalar.xori v698 v699
  let c0_i32_493 : BitVec 32 := 0#32
  let v697 : BitVec 1 := Scalar.cmpi .ne v696 c0_i32_493
  let v701 : BitVec 1 := Scalar.andi v700 v697
  let v702 : BitVec 32 := Scalar.addi v696 v695
  let v703 : BitVec 32 := Scalar.select v701 v702 v696
  let c1_i32_500 : BitVec 32 := 1#32
  let v705 : BitVec 32 := Scalar.muli v703 c1_i32_500
  let v706 : BitVec 32 := Scalar.addi c0_i32_501 v705
  v706.toNat
def k0_dev45 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_505 : BitVec 32 := 14#32
  let v714 : BitVec 32 := Scalar.addi v2 c14_i32_505
  let c32_i32_506 : BitVec 32 := 32#32
  let c0_i32_507 : BitVec 32 := 0#32
  let v715 : BitVec 1 := Scalar.cmpi .eq c32_i32_506 c0_i32_507
  let c1_i32_508 : BitVec 32 := 1#32
  let v716 : BitVec 32 := Scalar.select v715 c1_i32_508 c32_i32_506
  let v717 : BitVec 32 := Scalar.remsi v714 v716
  let c0_i32_510 : BitVec 32 := 0#32
  let v719 : BitVec 1 := Scalar.cmpi .slt v717 c0_i32_510
  let c0_i32_511 : BitVec 32 := 0#32
  let v720 : BitVec 1 := Scalar.cmpi .slt v716 c0_i32_511
  let v721 : BitVec 1 := Scalar.xori v719 v720
  let c0_i32_509 : BitVec 32 := 0#32
  let v718 : BitVec 1 := Scalar.cmpi .ne v717 c0_i32_509
  let v722 : BitVec 1 := Scalar.andi v721 v718
  let v723 : BitVec 32 := Scalar.addi v717 v716
  let v724 : BitVec 32 := Scalar.select v722 v723 v717
  let c1_i32_516 : BitVec 32 := 1#32
  let v726 : BitVec 32 := Scalar.muli v724 c1_i32_516
  let v727 : BitVec 32 := Scalar.addi c0_i32_517 v726
  v727.toNat
def k0_dev46 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_521 : BitVec 32 := 15#32
  let v735 : BitVec 32 := Scalar.addi v2 c15_i32_521
  let c32_i32_522 : BitVec 32 := 32#32
  let c0_i32_523 : BitVec 32 := 0#32
  let v736 : BitVec 1 := Scalar.cmpi .eq c32_i32_522 c0_i32_523
  let c1_i32_524 : BitVec 32 := 1#32
  let v737 : BitVec 32 := Scalar.select v736 c1_i32_524 c32_i32_522
  let v738 : BitVec 32 := Scalar.remsi v735 v737
  let c0_i32_526 : BitVec 32 := 0#32
  let v740 : BitVec 1 := Scalar.cmpi .slt v738 c0_i32_526
  let c0_i32_527 : BitVec 32 := 0#32
  let v741 : BitVec 1 := Scalar.cmpi .slt v737 c0_i32_527
  let v742 : BitVec 1 := Scalar.xori v740 v741
  let c0_i32_525 : BitVec 32 := 0#32
  let v739 : BitVec 1 := Scalar.cmpi .ne v738 c0_i32_525
  let v743 : BitVec 1 := Scalar.andi v742 v739
  let v744 : BitVec 32 := Scalar.addi v738 v737
  let v745 : BitVec 32 := Scalar.select v743 v744 v738
  let c1_i32_532 : BitVec 32 := 1#32
  let v747 : BitVec 32 := Scalar.muli v745 c1_i32_532
  let v748 : BitVec 32 := Scalar.addi c0_i32_533 v747
  v748.toNat
def k0_dev47 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_537 : BitVec 32 := 16#32
  let v756 : BitVec 32 := Scalar.addi v2 c16_i32_537
  let c32_i32_538 : BitVec 32 := 32#32
  let c0_i32_539 : BitVec 32 := 0#32
  let v757 : BitVec 1 := Scalar.cmpi .eq c32_i32_538 c0_i32_539
  let c1_i32_540 : BitVec 32 := 1#32
  let v758 : BitVec 32 := Scalar.select v757 c1_i32_540 c32_i32_538
  let v759 : BitVec 32 := Scalar.remsi v756 v758
  let c0_i32_542 : BitVec 32 := 0#32
  let v761 : BitVec 1 := Scalar.cmpi .slt v759 c0_i32_542
  let c0_i32_543 : BitVec 32 := 0#32
  let v762 : BitVec 1 := Scalar.cmpi .slt v758 c0_i32_543
  let v763 : BitVec 1 := Scalar.xori v761 v762
  let c0_i32_541 : BitVec 32 := 0#32
  let v760 : BitVec 1 := Scalar.cmpi .ne v759 c0_i32_541
  let v764 : BitVec 1 := Scalar.andi v763 v760
  let v765 : BitVec 32 := Scalar.addi v759 v758
  let v766 : BitVec 32 := Scalar.select v764 v765 v759
  let c1_i32_548 : BitVec 32 := 1#32
  let v768 : BitVec 32 := Scalar.muli v766 c1_i32_548
  let v769 : BitVec 32 := Scalar.addi c0_i32_549 v768
  v769.toNat
def k0_dev48 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_553 : BitVec 32 := 17#32
  let v777 : BitVec 32 := Scalar.addi v2 c17_i32_553
  let c32_i32_554 : BitVec 32 := 32#32
  let c0_i32_555 : BitVec 32 := 0#32
  let v778 : BitVec 1 := Scalar.cmpi .eq c32_i32_554 c0_i32_555
  let c1_i32_556 : BitVec 32 := 1#32
  let v779 : BitVec 32 := Scalar.select v778 c1_i32_556 c32_i32_554
  let v780 : BitVec 32 := Scalar.remsi v777 v779
  let c0_i32_558 : BitVec 32 := 0#32
  let v782 : BitVec 1 := Scalar.cmpi .slt v780 c0_i32_558
  let c0_i32_559 : BitVec 32 := 0#32
  let v783 : BitVec 1 := Scalar.cmpi .slt v779 c0_i32_559
  let v784 : BitVec 1 := Scalar.xori v782 v783
  let c0_i32_557 : BitVec 32 := 0#32
  let v781 : BitVec 1 := Scalar.cmpi .ne v780 c0_i32_557
  let v785 : BitVec 1 := Scalar.andi v784 v781
  let v786 : BitVec 32 := Scalar.addi v780 v779
  let v787 : BitVec 32 := Scalar.select v785 v786 v780
  let c1_i32_564 : BitVec 32 := 1#32
  let v789 : BitVec 32 := Scalar.muli v787 c1_i32_564
  let v790 : BitVec 32 := Scalar.addi c0_i32_565 v789
  v790.toNat
def k0_dev49 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_569 : BitVec 32 := 18#32
  let v798 : BitVec 32 := Scalar.addi v2 c18_i32_569
  let c32_i32_570 : BitVec 32 := 32#32
  let c0_i32_571 : BitVec 32 := 0#32
  let v799 : BitVec 1 := Scalar.cmpi .eq c32_i32_570 c0_i32_571
  let c1_i32_572 : BitVec 32 := 1#32
  let v800 : BitVec 32 := Scalar.select v799 c1_i32_572 c32_i32_570
  let v801 : BitVec 32 := Scalar.remsi v798 v800
  let c0_i32_574 : BitVec 32 := 0#32
  let v803 : BitVec 1 := Scalar.cmpi .slt v801 c0_i32_574
  let c0_i32_575 : BitVec 32 := 0#32
  let v804 : BitVec 1 := Scalar.cmpi .slt v800 c0_i32_575
  let v805 : BitVec 1 := Scalar.xori v803 v804
  let c0_i32_573 : BitVec 32 := 0#32
  let v802 : BitVec 1 := Scalar.cmpi .ne v801 c0_i32_573
  let v806 : BitVec 1 := Scalar.andi v805 v802
  let v807 : BitVec 32 := Scalar.addi v801 v800
  let v808 : BitVec 32 := Scalar.select v806 v807 v801
  let c1_i32_580 : BitVec 32 := 1#32
  let v810 : BitVec 32 := Scalar.muli v808 c1_i32_580
  let v811 : BitVec 32 := Scalar.addi c0_i32_581 v810
  v811.toNat
def k0_dev50 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_585 : BitVec 32 := 19#32
  let v819 : BitVec 32 := Scalar.addi v2 c19_i32_585
  let c32_i32_586 : BitVec 32 := 32#32
  let c0_i32_587 : BitVec 32 := 0#32
  let v820 : BitVec 1 := Scalar.cmpi .eq c32_i32_586 c0_i32_587
  let c1_i32_588 : BitVec 32 := 1#32
  let v821 : BitVec 32 := Scalar.select v820 c1_i32_588 c32_i32_586
  let v822 : BitVec 32 := Scalar.remsi v819 v821
  let c0_i32_590 : BitVec 32 := 0#32
  let v824 : BitVec 1 := Scalar.cmpi .slt v822 c0_i32_590
  let c0_i32_591 : BitVec 32 := 0#32
  let v825 : BitVec 1 := Scalar.cmpi .slt v821 c0_i32_591
  let v826 : BitVec 1 := Scalar.xori v824 v825
  let c0_i32_589 : BitVec 32 := 0#32
  let v823 : BitVec 1 := Scalar.cmpi .ne v822 c0_i32_589
  let v827 : BitVec 1 := Scalar.andi v826 v823
  let v828 : BitVec 32 := Scalar.addi v822 v821
  let v829 : BitVec 32 := Scalar.select v827 v828 v822
  let c1_i32_596 : BitVec 32 := 1#32
  let v831 : BitVec 32 := Scalar.muli v829 c1_i32_596
  let v832 : BitVec 32 := Scalar.addi c0_i32_597 v831
  v832.toNat
def k0_dev51 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_601 : BitVec 32 := 20#32
  let v840 : BitVec 32 := Scalar.addi v2 c20_i32_601
  let c32_i32_602 : BitVec 32 := 32#32
  let c0_i32_603 : BitVec 32 := 0#32
  let v841 : BitVec 1 := Scalar.cmpi .eq c32_i32_602 c0_i32_603
  let c1_i32_604 : BitVec 32 := 1#32
  let v842 : BitVec 32 := Scalar.select v841 c1_i32_604 c32_i32_602
  let v843 : BitVec 32 := Scalar.remsi v840 v842
  let c0_i32_606 : BitVec 32 := 0#32
  let v845 : BitVec 1 := Scalar.cmpi .slt v843 c0_i32_606
  let c0_i32_607 : BitVec 32 := 0#32
  let v846 : BitVec 1 := Scalar.cmpi .slt v842 c0_i32_607
  let v847 : BitVec 1 := Scalar.xori v845 v846
  let c0_i32_605 : BitVec 32 := 0#32
  let v844 : BitVec 1 := Scalar.cmpi .ne v843 c0_i32_605
  let v848 : BitVec 1 := Scalar.andi v847 v844
  let v849 : BitVec 32 := Scalar.addi v843 v842
  let v850 : BitVec 32 := Scalar.select v848 v849 v843
  let c1_i32_612 : BitVec 32 := 1#32
  let v852 : BitVec 32 := Scalar.muli v850 c1_i32_612
  let v853 : BitVec 32 := Scalar.addi c0_i32_613 v852
  v853.toNat
def k0_dev52 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_617 : BitVec 32 := 21#32
  let v861 : BitVec 32 := Scalar.addi v2 c21_i32_617
  let c32_i32_618 : BitVec 32 := 32#32
  let c0_i32_619 : BitVec 32 := 0#32
  let v862 : BitVec 1 := Scalar.cmpi .eq c32_i32_618 c0_i32_619
  let c1_i32_620 : BitVec 32 := 1#32
  let v863 : BitVec 32 := Scalar.select v862 c1_i32_620 c32_i32_618
  let v864 : BitVec 32 := Scalar.remsi v861 v863
  let c0_i32_622 : BitVec 32 := 0#32
  let v866 : BitVec 1 := Scalar.cmpi .slt v864 c0_i32_622
  let c0_i32_623 : BitVec 32 := 0#32
  let v867 : BitVec 1 := Scalar.cmpi .slt v863 c0_i32_623
  let v868 : BitVec 1 := Scalar.xori v866 v867
  let c0_i32_621 : BitVec 32 := 0#32
  let v865 : BitVec 1 := Scalar.cmpi .ne v864 c0_i32_621
  let v869 : BitVec 1 := Scalar.andi v868 v865
  let v870 : BitVec 32 := Scalar.addi v864 v863
  let v871 : BitVec 32 := Scalar.select v869 v870 v864
  let c1_i32_628 : BitVec 32 := 1#32
  let v873 : BitVec 32 := Scalar.muli v871 c1_i32_628
  let v874 : BitVec 32 := Scalar.addi c0_i32_629 v873
  v874.toNat
def k0_dev53 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_633 : BitVec 32 := 22#32
  let v882 : BitVec 32 := Scalar.addi v2 c22_i32_633
  let c32_i32_634 : BitVec 32 := 32#32
  let c0_i32_635 : BitVec 32 := 0#32
  let v883 : BitVec 1 := Scalar.cmpi .eq c32_i32_634 c0_i32_635
  let c1_i32_636 : BitVec 32 := 1#32
  let v884 : BitVec 32 := Scalar.select v883 c1_i32_636 c32_i32_634
  let v885 : BitVec 32 := Scalar.remsi v882 v884
  let c0_i32_638 : BitVec 32 := 0#32
  let v887 : BitVec 1 := Scalar.cmpi .slt v885 c0_i32_638
  let c0_i32_639 : BitVec 32 := 0#32
  let v888 : BitVec 1 := Scalar.cmpi .slt v884 c0_i32_639
  let v889 : BitVec 1 := Scalar.xori v887 v888
  let c0_i32_637 : BitVec 32 := 0#32
  let v886 : BitVec 1 := Scalar.cmpi .ne v885 c0_i32_637
  let v890 : BitVec 1 := Scalar.andi v889 v886
  let v891 : BitVec 32 := Scalar.addi v885 v884
  let v892 : BitVec 32 := Scalar.select v890 v891 v885
  let c1_i32_644 : BitVec 32 := 1#32
  let v894 : BitVec 32 := Scalar.muli v892 c1_i32_644
  let v895 : BitVec 32 := Scalar.addi c0_i32_645 v894
  v895.toNat
def k0_dev54 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_649 : BitVec 32 := 23#32
  let v903 : BitVec 32 := Scalar.addi v2 c23_i32_649
  let c32_i32_650 : BitVec 32 := 32#32
  let c0_i32_651 : BitVec 32 := 0#32
  let v904 : BitVec 1 := Scalar.cmpi .eq c32_i32_650 c0_i32_651
  let c1_i32_652 : BitVec 32 := 1#32
  let v905 : BitVec 32 := Scalar.select v904 c1_i32_652 c32_i32_650
  let v906 : BitVec 32 := Scalar.remsi v903 v905
  let c0_i32_654 : BitVec 32 := 0#32
  let v908 : BitVec 1 := Scalar.cmpi .slt v906 c0_i32_654
  let c0_i32_655 : BitVec 32 := 0#32
  let v909 : BitVec 1 := Scalar.cmpi .slt v905 c0_i32_655
  let v910 : BitVec 1 := Scalar.xori v908 v909
  let c0_i32_653 : BitVec 32 := 0#32
  let v907 : BitVec 1 := Scalar.cmpi .ne v906 c0_i32_653
  let v911 : BitVec 1 := Scalar.andi v910 v907
  let v912 : BitVec 32 := Scalar.addi v906 v905
  let v913 : BitVec 32 := Scalar.select v911 v912 v906
  let c1_i32_660 : BitVec 32 := 1#32
  let v915 : BitVec 32 := Scalar.muli v913 c1_i32_660
  let v916 : BitVec 32 := Scalar.addi c0_i32_661 v915
  v916.toNat
def k0_dev55 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_665 : BitVec 32 := 24#32
  let v924 : BitVec 32 := Scalar.addi v2 c24_i32_665
  let c32_i32_666 : BitVec 32 := 32#32
  let c0_i32_667 : BitVec 32 := 0#32
  let v925 : BitVec 1 := Scalar.cmpi .eq c32_i32_666 c0_i32_667
  let c1_i32_668 : BitVec 32 := 1#32
  let v926 : BitVec 32 := Scalar.select v925 c1_i32_668 c32_i32_666
  let v927 : BitVec 32 := Scalar.remsi v924 v926
  let c0_i32_670 : BitVec 32 := 0#32
  let v929 : BitVec 1 := Scalar.cmpi .slt v927 c0_i32_670
  let c0_i32_671 : BitVec 32 := 0#32
  let v930 : BitVec 1 := Scalar.cmpi .slt v926 c0_i32_671
  let v931 : BitVec 1 := Scalar.xori v929 v930
  let c0_i32_669 : BitVec 32 := 0#32
  let v928 : BitVec 1 := Scalar.cmpi .ne v927 c0_i32_669
  let v932 : BitVec 1 := Scalar.andi v931 v928
  let v933 : BitVec 32 := Scalar.addi v927 v926
  let v934 : BitVec 32 := Scalar.select v932 v933 v927
  let c1_i32_676 : BitVec 32 := 1#32
  let v936 : BitVec 32 := Scalar.muli v934 c1_i32_676
  let v937 : BitVec 32 := Scalar.addi c0_i32_677 v936
  v937.toNat
def k0_dev56 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_681 : BitVec 32 := 25#32
  let v945 : BitVec 32 := Scalar.addi v2 c25_i32_681
  let c32_i32_682 : BitVec 32 := 32#32
  let c0_i32_683 : BitVec 32 := 0#32
  let v946 : BitVec 1 := Scalar.cmpi .eq c32_i32_682 c0_i32_683
  let c1_i32_684 : BitVec 32 := 1#32
  let v947 : BitVec 32 := Scalar.select v946 c1_i32_684 c32_i32_682
  let v948 : BitVec 32 := Scalar.remsi v945 v947
  let c0_i32_686 : BitVec 32 := 0#32
  let v950 : BitVec 1 := Scalar.cmpi .slt v948 c0_i32_686
  let c0_i32_687 : BitVec 32 := 0#32
  let v951 : BitVec 1 := Scalar.cmpi .slt v947 c0_i32_687
  let v952 : BitVec 1 := Scalar.xori v950 v951
  let c0_i32_685 : BitVec 32 := 0#32
  let v949 : BitVec 1 := Scalar.cmpi .ne v948 c0_i32_685
  let v953 : BitVec 1 := Scalar.andi v952 v949
  let v954 : BitVec 32 := Scalar.addi v948 v947
  let v955 : BitVec 32 := Scalar.select v953 v954 v948
  let c1_i32_692 : BitVec 32 := 1#32
  let v957 : BitVec 32 := Scalar.muli v955 c1_i32_692
  let v958 : BitVec 32 := Scalar.addi c0_i32_693 v957
  v958.toNat
def k0_dev57 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_697 : BitVec 32 := 26#32
  let v966 : BitVec 32 := Scalar.addi v2 c26_i32_697
  let c32_i32_698 : BitVec 32 := 32#32
  let c0_i32_699 : BitVec 32 := 0#32
  let v967 : BitVec 1 := Scalar.cmpi .eq c32_i32_698 c0_i32_699
  let c1_i32_700 : BitVec 32 := 1#32
  let v968 : BitVec 32 := Scalar.select v967 c1_i32_700 c32_i32_698
  let v969 : BitVec 32 := Scalar.remsi v966 v968
  let c0_i32_702 : BitVec 32 := 0#32
  let v971 : BitVec 1 := Scalar.cmpi .slt v969 c0_i32_702
  let c0_i32_703 : BitVec 32 := 0#32
  let v972 : BitVec 1 := Scalar.cmpi .slt v968 c0_i32_703
  let v973 : BitVec 1 := Scalar.xori v971 v972
  let c0_i32_701 : BitVec 32 := 0#32
  let v970 : BitVec 1 := Scalar.cmpi .ne v969 c0_i32_701
  let v974 : BitVec 1 := Scalar.andi v973 v970
  let v975 : BitVec 32 := Scalar.addi v969 v968
  let v976 : BitVec 32 := Scalar.select v974 v975 v969
  let c1_i32_708 : BitVec 32 := 1#32
  let v978 : BitVec 32 := Scalar.muli v976 c1_i32_708
  let v979 : BitVec 32 := Scalar.addi c0_i32_709 v978
  v979.toNat
def k0_dev58 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_713 : BitVec 32 := 27#32
  let v987 : BitVec 32 := Scalar.addi v2 c27_i32_713
  let c32_i32_714 : BitVec 32 := 32#32
  let c0_i32_715 : BitVec 32 := 0#32
  let v988 : BitVec 1 := Scalar.cmpi .eq c32_i32_714 c0_i32_715
  let c1_i32_716 : BitVec 32 := 1#32
  let v989 : BitVec 32 := Scalar.select v988 c1_i32_716 c32_i32_714
  let v990 : BitVec 32 := Scalar.remsi v987 v989
  let c0_i32_718 : BitVec 32 := 0#32
  let v992 : BitVec 1 := Scalar.cmpi .slt v990 c0_i32_718
  let c0_i32_719 : BitVec 32 := 0#32
  let v993 : BitVec 1 := Scalar.cmpi .slt v989 c0_i32_719
  let v994 : BitVec 1 := Scalar.xori v992 v993
  let c0_i32_717 : BitVec 32 := 0#32
  let v991 : BitVec 1 := Scalar.cmpi .ne v990 c0_i32_717
  let v995 : BitVec 1 := Scalar.andi v994 v991
  let v996 : BitVec 32 := Scalar.addi v990 v989
  let v997 : BitVec 32 := Scalar.select v995 v996 v990
  let c1_i32_724 : BitVec 32 := 1#32
  let v999 : BitVec 32 := Scalar.muli v997 c1_i32_724
  let v1000 : BitVec 32 := Scalar.addi c0_i32_725 v999
  v1000.toNat
def k0_dev59 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_729 : BitVec 32 := 28#32
  let v1008 : BitVec 32 := Scalar.addi v2 c28_i32_729
  let c32_i32_730 : BitVec 32 := 32#32
  let c0_i32_731 : BitVec 32 := 0#32
  let v1009 : BitVec 1 := Scalar.cmpi .eq c32_i32_730 c0_i32_731
  let c1_i32_732 : BitVec 32 := 1#32
  let v1010 : BitVec 32 := Scalar.select v1009 c1_i32_732 c32_i32_730
  let v1011 : BitVec 32 := Scalar.remsi v1008 v1010
  let c0_i32_734 : BitVec 32 := 0#32
  let v1013 : BitVec 1 := Scalar.cmpi .slt v1011 c0_i32_734
  let c0_i32_735 : BitVec 32 := 0#32
  let v1014 : BitVec 1 := Scalar.cmpi .slt v1010 c0_i32_735
  let v1015 : BitVec 1 := Scalar.xori v1013 v1014
  let c0_i32_733 : BitVec 32 := 0#32
  let v1012 : BitVec 1 := Scalar.cmpi .ne v1011 c0_i32_733
  let v1016 : BitVec 1 := Scalar.andi v1015 v1012
  let v1017 : BitVec 32 := Scalar.addi v1011 v1010
  let v1018 : BitVec 32 := Scalar.select v1016 v1017 v1011
  let c1_i32_740 : BitVec 32 := 1#32
  let v1020 : BitVec 32 := Scalar.muli v1018 c1_i32_740
  let v1021 : BitVec 32 := Scalar.addi c0_i32_741 v1020
  v1021.toNat
def k0_dev60 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_745 : BitVec 32 := 29#32
  let v1029 : BitVec 32 := Scalar.addi v2 c29_i32_745
  let c32_i32_746 : BitVec 32 := 32#32
  let c0_i32_747 : BitVec 32 := 0#32
  let v1030 : BitVec 1 := Scalar.cmpi .eq c32_i32_746 c0_i32_747
  let c1_i32_748 : BitVec 32 := 1#32
  let v1031 : BitVec 32 := Scalar.select v1030 c1_i32_748 c32_i32_746
  let v1032 : BitVec 32 := Scalar.remsi v1029 v1031
  let c0_i32_750 : BitVec 32 := 0#32
  let v1034 : BitVec 1 := Scalar.cmpi .slt v1032 c0_i32_750
  let c0_i32_751 : BitVec 32 := 0#32
  let v1035 : BitVec 1 := Scalar.cmpi .slt v1031 c0_i32_751
  let v1036 : BitVec 1 := Scalar.xori v1034 v1035
  let c0_i32_749 : BitVec 32 := 0#32
  let v1033 : BitVec 1 := Scalar.cmpi .ne v1032 c0_i32_749
  let v1037 : BitVec 1 := Scalar.andi v1036 v1033
  let v1038 : BitVec 32 := Scalar.addi v1032 v1031
  let v1039 : BitVec 32 := Scalar.select v1037 v1038 v1032
  let c1_i32_756 : BitVec 32 := 1#32
  let v1041 : BitVec 32 := Scalar.muli v1039 c1_i32_756
  let v1042 : BitVec 32 := Scalar.addi c0_i32_757 v1041
  v1042.toNat
def k0_dev61 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_761 : BitVec 32 := 30#32
  let v1050 : BitVec 32 := Scalar.addi v2 c30_i32_761
  let c32_i32_762 : BitVec 32 := 32#32
  let c0_i32_763 : BitVec 32 := 0#32
  let v1051 : BitVec 1 := Scalar.cmpi .eq c32_i32_762 c0_i32_763
  let c1_i32_764 : BitVec 32 := 1#32
  let v1052 : BitVec 32 := Scalar.select v1051 c1_i32_764 c32_i32_762
  let v1053 : BitVec 32 := Scalar.remsi v1050 v1052
  let c0_i32_766 : BitVec 32 := 0#32
  let v1055 : BitVec 1 := Scalar.cmpi .slt v1053 c0_i32_766
  let c0_i32_767 : BitVec 32 := 0#32
  let v1056 : BitVec 1 := Scalar.cmpi .slt v1052 c0_i32_767
  let v1057 : BitVec 1 := Scalar.xori v1055 v1056
  let c0_i32_765 : BitVec 32 := 0#32
  let v1054 : BitVec 1 := Scalar.cmpi .ne v1053 c0_i32_765
  let v1058 : BitVec 1 := Scalar.andi v1057 v1054
  let v1059 : BitVec 32 := Scalar.addi v1053 v1052
  let v1060 : BitVec 32 := Scalar.select v1058 v1059 v1053
  let c1_i32_772 : BitVec 32 := 1#32
  let v1062 : BitVec 32 := Scalar.muli v1060 c1_i32_772
  let v1063 : BitVec 32 := Scalar.addi c0_i32_773 v1062
  v1063.toNat
def k0_dev62 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_777 : BitVec 32 := 31#32
  let v1071 : BitVec 32 := Scalar.addi v2 c31_i32_777
  let c32_i32_778 : BitVec 32 := 32#32
  let c0_i32_779 : BitVec 32 := 0#32
  let v1072 : BitVec 1 := Scalar.cmpi .eq c32_i32_778 c0_i32_779
  let c1_i32_780 : BitVec 32 := 1#32
  let v1073 : BitVec 32 := Scalar.select v1072 c1_i32_780 c32_i32_778
  let v1074 : BitVec 32 := Scalar.remsi v1071 v1073
  let c0_i32_782 : BitVec 32 := 0#32
  let v1076 : BitVec 1 := Scalar.cmpi .slt v1074 c0_i32_782
  let c0_i32_783 : BitVec 32 := 0#32
  let v1077 : BitVec 1 := Scalar.cmpi .slt v1073 c0_i32_783
  let v1078 : BitVec 1 := Scalar.xori v1076 v1077
  let c0_i32_781 : BitVec 32 := 0#32
  let v1075 : BitVec 1 := Scalar.cmpi .ne v1074 c0_i32_781
  let v1079 : BitVec 1 := Scalar.andi v1078 v1075
  let v1080 : BitVec 32 := Scalar.addi v1074 v1073
  let v1081 : BitVec 32 := Scalar.select v1079 v1080 v1074
  let c1_i32_788 : BitVec 32 := 1#32
  let v1083 : BitVec 32 := Scalar.muli v1081 c1_i32_788
  let v1084 : BitVec 32 := Scalar.addi c0_i32_789 v1083
  v1084.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_793 : BitVec 32 := 16#32
  let v1092 : BitVec 32 := Scalar.muli v2 c16_i32_793
  let v1093 : Index := Scalar.indexCast v1092
  let c0_794 : Index := 0#32
  ![v1093.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1060 : BitVec 32 := 16#32
  let v1336 : BitVec 32 := Scalar.muli v2 c16_i32_1060
  let c0_i32_1065 : BitVec 32 := 0#32
  ![v1336.toNat, 0]
def k0_dev63 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1052 : BitVec 32 := 1#32
  let v1324 : BitVec 32 := Scalar.addi v2 c1_i32_1052
  let c32_i32_1053 : BitVec 32 := 32#32
  let c0_i32_1054 : BitVec 32 := 0#32
  let v1325 : BitVec 1 := Scalar.cmpi .eq c32_i32_1053 c0_i32_1054
  let c1_i32_1055 : BitVec 32 := 1#32
  let v1326 : BitVec 32 := Scalar.select v1325 c1_i32_1055 c32_i32_1053
  let v1327 : BitVec 32 := Scalar.remsi v1324 v1326
  let c0_i32_1057 : BitVec 32 := 0#32
  let v1329 : BitVec 1 := Scalar.cmpi .slt v1327 c0_i32_1057
  let c0_i32_1058 : BitVec 32 := 0#32
  let v1330 : BitVec 1 := Scalar.cmpi .slt v1326 c0_i32_1058
  let v1331 : BitVec 1 := Scalar.xori v1329 v1330
  let c0_i32_1056 : BitVec 32 := 0#32
  let v1328 : BitVec 1 := Scalar.cmpi .ne v1327 c0_i32_1056
  let v1332 : BitVec 1 := Scalar.andi v1331 v1328
  let v1333 : BitVec 32 := Scalar.addi v1327 v1326
  let v1334 : BitVec 32 := Scalar.select v1332 v1333 v1327
  let c1_i32_1063 : BitVec 32 := 1#32
  let v1337 : BitVec 32 := Scalar.muli v1334 c1_i32_1063
  let v1338 : BitVec 32 := Scalar.addi c0_i32_1064 v1337
  v1338.toNat
def k0_dev64 (d0 : Dev nD) : Nat :=
  let c0_i32_1079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1067 : BitVec 32 := 2#32
  let v1345 : BitVec 32 := Scalar.addi v2 c2_i32_1067
  let c32_i32_1068 : BitVec 32 := 32#32
  let c0_i32_1069 : BitVec 32 := 0#32
  let v1346 : BitVec 1 := Scalar.cmpi .eq c32_i32_1068 c0_i32_1069
  let c1_i32_1070 : BitVec 32 := 1#32
  let v1347 : BitVec 32 := Scalar.select v1346 c1_i32_1070 c32_i32_1068
  let v1348 : BitVec 32 := Scalar.remsi v1345 v1347
  let c0_i32_1072 : BitVec 32 := 0#32
  let v1350 : BitVec 1 := Scalar.cmpi .slt v1348 c0_i32_1072
  let c0_i32_1073 : BitVec 32 := 0#32
  let v1351 : BitVec 1 := Scalar.cmpi .slt v1347 c0_i32_1073
  let v1352 : BitVec 1 := Scalar.xori v1350 v1351
  let c0_i32_1071 : BitVec 32 := 0#32
  let v1349 : BitVec 1 := Scalar.cmpi .ne v1348 c0_i32_1071
  let v1353 : BitVec 1 := Scalar.andi v1352 v1349
  let v1354 : BitVec 32 := Scalar.addi v1348 v1347
  let v1355 : BitVec 32 := Scalar.select v1353 v1354 v1348
  let c1_i32_1078 : BitVec 32 := 1#32
  let v1358 : BitVec 32 := Scalar.muli v1355 c1_i32_1078
  let v1359 : BitVec 32 := Scalar.addi c0_i32_1079 v1358
  v1359.toNat
def k0_dev65 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1082 : BitVec 32 := 3#32
  let v1366 : BitVec 32 := Scalar.addi v2 c3_i32_1082
  let c32_i32_1083 : BitVec 32 := 32#32
  let c0_i32_1084 : BitVec 32 := 0#32
  let v1367 : BitVec 1 := Scalar.cmpi .eq c32_i32_1083 c0_i32_1084
  let c1_i32_1085 : BitVec 32 := 1#32
  let v1368 : BitVec 32 := Scalar.select v1367 c1_i32_1085 c32_i32_1083
  let v1369 : BitVec 32 := Scalar.remsi v1366 v1368
  let c0_i32_1087 : BitVec 32 := 0#32
  let v1371 : BitVec 1 := Scalar.cmpi .slt v1369 c0_i32_1087
  let c0_i32_1088 : BitVec 32 := 0#32
  let v1372 : BitVec 1 := Scalar.cmpi .slt v1368 c0_i32_1088
  let v1373 : BitVec 1 := Scalar.xori v1371 v1372
  let c0_i32_1086 : BitVec 32 := 0#32
  let v1370 : BitVec 1 := Scalar.cmpi .ne v1369 c0_i32_1086
  let v1374 : BitVec 1 := Scalar.andi v1373 v1370
  let v1375 : BitVec 32 := Scalar.addi v1369 v1368
  let v1376 : BitVec 32 := Scalar.select v1374 v1375 v1369
  let c1_i32_1093 : BitVec 32 := 1#32
  let v1379 : BitVec 32 := Scalar.muli v1376 c1_i32_1093
  let v1380 : BitVec 32 := Scalar.addi c0_i32_1094 v1379
  v1380.toNat
def k0_dev66 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1097 : BitVec 32 := 4#32
  let v1387 : BitVec 32 := Scalar.addi v2 c4_i32_1097
  let c32_i32_1098 : BitVec 32 := 32#32
  let c0_i32_1099 : BitVec 32 := 0#32
  let v1388 : BitVec 1 := Scalar.cmpi .eq c32_i32_1098 c0_i32_1099
  let c1_i32_1100 : BitVec 32 := 1#32
  let v1389 : BitVec 32 := Scalar.select v1388 c1_i32_1100 c32_i32_1098
  let v1390 : BitVec 32 := Scalar.remsi v1387 v1389
  let c0_i32_1102 : BitVec 32 := 0#32
  let v1392 : BitVec 1 := Scalar.cmpi .slt v1390 c0_i32_1102
  let c0_i32_1103 : BitVec 32 := 0#32
  let v1393 : BitVec 1 := Scalar.cmpi .slt v1389 c0_i32_1103
  let v1394 : BitVec 1 := Scalar.xori v1392 v1393
  let c0_i32_1101 : BitVec 32 := 0#32
  let v1391 : BitVec 1 := Scalar.cmpi .ne v1390 c0_i32_1101
  let v1395 : BitVec 1 := Scalar.andi v1394 v1391
  let v1396 : BitVec 32 := Scalar.addi v1390 v1389
  let v1397 : BitVec 32 := Scalar.select v1395 v1396 v1390
  let c1_i32_1108 : BitVec 32 := 1#32
  let v1400 : BitVec 32 := Scalar.muli v1397 c1_i32_1108
  let v1401 : BitVec 32 := Scalar.addi c0_i32_1109 v1400
  v1401.toNat
def k0_dev67 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1112 : BitVec 32 := 5#32
  let v1408 : BitVec 32 := Scalar.addi v2 c5_i32_1112
  let c32_i32_1113 : BitVec 32 := 32#32
  let c0_i32_1114 : BitVec 32 := 0#32
  let v1409 : BitVec 1 := Scalar.cmpi .eq c32_i32_1113 c0_i32_1114
  let c1_i32_1115 : BitVec 32 := 1#32
  let v1410 : BitVec 32 := Scalar.select v1409 c1_i32_1115 c32_i32_1113
  let v1411 : BitVec 32 := Scalar.remsi v1408 v1410
  let c0_i32_1117 : BitVec 32 := 0#32
  let v1413 : BitVec 1 := Scalar.cmpi .slt v1411 c0_i32_1117
  let c0_i32_1118 : BitVec 32 := 0#32
  let v1414 : BitVec 1 := Scalar.cmpi .slt v1410 c0_i32_1118
  let v1415 : BitVec 1 := Scalar.xori v1413 v1414
  let c0_i32_1116 : BitVec 32 := 0#32
  let v1412 : BitVec 1 := Scalar.cmpi .ne v1411 c0_i32_1116
  let v1416 : BitVec 1 := Scalar.andi v1415 v1412
  let v1417 : BitVec 32 := Scalar.addi v1411 v1410
  let v1418 : BitVec 32 := Scalar.select v1416 v1417 v1411
  let c1_i32_1123 : BitVec 32 := 1#32
  let v1421 : BitVec 32 := Scalar.muli v1418 c1_i32_1123
  let v1422 : BitVec 32 := Scalar.addi c0_i32_1124 v1421
  v1422.toNat
def k0_dev68 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1127 : BitVec 32 := 6#32
  let v1429 : BitVec 32 := Scalar.addi v2 c6_i32_1127
  let c32_i32_1128 : BitVec 32 := 32#32
  let c0_i32_1129 : BitVec 32 := 0#32
  let v1430 : BitVec 1 := Scalar.cmpi .eq c32_i32_1128 c0_i32_1129
  let c1_i32_1130 : BitVec 32 := 1#32
  let v1431 : BitVec 32 := Scalar.select v1430 c1_i32_1130 c32_i32_1128
  let v1432 : BitVec 32 := Scalar.remsi v1429 v1431
  let c0_i32_1132 : BitVec 32 := 0#32
  let v1434 : BitVec 1 := Scalar.cmpi .slt v1432 c0_i32_1132
  let c0_i32_1133 : BitVec 32 := 0#32
  let v1435 : BitVec 1 := Scalar.cmpi .slt v1431 c0_i32_1133
  let v1436 : BitVec 1 := Scalar.xori v1434 v1435
  let c0_i32_1131 : BitVec 32 := 0#32
  let v1433 : BitVec 1 := Scalar.cmpi .ne v1432 c0_i32_1131
  let v1437 : BitVec 1 := Scalar.andi v1436 v1433
  let v1438 : BitVec 32 := Scalar.addi v1432 v1431
  let v1439 : BitVec 32 := Scalar.select v1437 v1438 v1432
  let c1_i32_1138 : BitVec 32 := 1#32
  let v1442 : BitVec 32 := Scalar.muli v1439 c1_i32_1138
  let v1443 : BitVec 32 := Scalar.addi c0_i32_1139 v1442
  v1443.toNat
def k0_dev69 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1142 : BitVec 32 := 7#32
  let v1450 : BitVec 32 := Scalar.addi v2 c7_i32_1142
  let c32_i32_1143 : BitVec 32 := 32#32
  let c0_i32_1144 : BitVec 32 := 0#32
  let v1451 : BitVec 1 := Scalar.cmpi .eq c32_i32_1143 c0_i32_1144
  let c1_i32_1145 : BitVec 32 := 1#32
  let v1452 : BitVec 32 := Scalar.select v1451 c1_i32_1145 c32_i32_1143
  let v1453 : BitVec 32 := Scalar.remsi v1450 v1452
  let c0_i32_1147 : BitVec 32 := 0#32
  let v1455 : BitVec 1 := Scalar.cmpi .slt v1453 c0_i32_1147
  let c0_i32_1148 : BitVec 32 := 0#32
  let v1456 : BitVec 1 := Scalar.cmpi .slt v1452 c0_i32_1148
  let v1457 : BitVec 1 := Scalar.xori v1455 v1456
  let c0_i32_1146 : BitVec 32 := 0#32
  let v1454 : BitVec 1 := Scalar.cmpi .ne v1453 c0_i32_1146
  let v1458 : BitVec 1 := Scalar.andi v1457 v1454
  let v1459 : BitVec 32 := Scalar.addi v1453 v1452
  let v1460 : BitVec 32 := Scalar.select v1458 v1459 v1453
  let c1_i32_1153 : BitVec 32 := 1#32
  let v1463 : BitVec 32 := Scalar.muli v1460 c1_i32_1153
  let v1464 : BitVec 32 := Scalar.addi c0_i32_1154 v1463
  v1464.toNat
def k0_dev70 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1157 : BitVec 32 := 8#32
  let v1471 : BitVec 32 := Scalar.addi v2 c8_i32_1157
  let c32_i32_1158 : BitVec 32 := 32#32
  let c0_i32_1159 : BitVec 32 := 0#32
  let v1472 : BitVec 1 := Scalar.cmpi .eq c32_i32_1158 c0_i32_1159
  let c1_i32_1160 : BitVec 32 := 1#32
  let v1473 : BitVec 32 := Scalar.select v1472 c1_i32_1160 c32_i32_1158
  let v1474 : BitVec 32 := Scalar.remsi v1471 v1473
  let c0_i32_1162 : BitVec 32 := 0#32
  let v1476 : BitVec 1 := Scalar.cmpi .slt v1474 c0_i32_1162
  let c0_i32_1163 : BitVec 32 := 0#32
  let v1477 : BitVec 1 := Scalar.cmpi .slt v1473 c0_i32_1163
  let v1478 : BitVec 1 := Scalar.xori v1476 v1477
  let c0_i32_1161 : BitVec 32 := 0#32
  let v1475 : BitVec 1 := Scalar.cmpi .ne v1474 c0_i32_1161
  let v1479 : BitVec 1 := Scalar.andi v1478 v1475
  let v1480 : BitVec 32 := Scalar.addi v1474 v1473
  let v1481 : BitVec 32 := Scalar.select v1479 v1480 v1474
  let c1_i32_1168 : BitVec 32 := 1#32
  let v1484 : BitVec 32 := Scalar.muli v1481 c1_i32_1168
  let v1485 : BitVec 32 := Scalar.addi c0_i32_1169 v1484
  v1485.toNat
def k0_dev71 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1172 : BitVec 32 := 9#32
  let v1492 : BitVec 32 := Scalar.addi v2 c9_i32_1172
  let c32_i32_1173 : BitVec 32 := 32#32
  let c0_i32_1174 : BitVec 32 := 0#32
  let v1493 : BitVec 1 := Scalar.cmpi .eq c32_i32_1173 c0_i32_1174
  let c1_i32_1175 : BitVec 32 := 1#32
  let v1494 : BitVec 32 := Scalar.select v1493 c1_i32_1175 c32_i32_1173
  let v1495 : BitVec 32 := Scalar.remsi v1492 v1494
  let c0_i32_1177 : BitVec 32 := 0#32
  let v1497 : BitVec 1 := Scalar.cmpi .slt v1495 c0_i32_1177
  let c0_i32_1178 : BitVec 32 := 0#32
  let v1498 : BitVec 1 := Scalar.cmpi .slt v1494 c0_i32_1178
  let v1499 : BitVec 1 := Scalar.xori v1497 v1498
  let c0_i32_1176 : BitVec 32 := 0#32
  let v1496 : BitVec 1 := Scalar.cmpi .ne v1495 c0_i32_1176
  let v1500 : BitVec 1 := Scalar.andi v1499 v1496
  let v1501 : BitVec 32 := Scalar.addi v1495 v1494
  let v1502 : BitVec 32 := Scalar.select v1500 v1501 v1495
  let c1_i32_1183 : BitVec 32 := 1#32
  let v1505 : BitVec 32 := Scalar.muli v1502 c1_i32_1183
  let v1506 : BitVec 32 := Scalar.addi c0_i32_1184 v1505
  v1506.toNat
def k0_dev72 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1187 : BitVec 32 := 10#32
  let v1513 : BitVec 32 := Scalar.addi v2 c10_i32_1187
  let c32_i32_1188 : BitVec 32 := 32#32
  let c0_i32_1189 : BitVec 32 := 0#32
  let v1514 : BitVec 1 := Scalar.cmpi .eq c32_i32_1188 c0_i32_1189
  let c1_i32_1190 : BitVec 32 := 1#32
  let v1515 : BitVec 32 := Scalar.select v1514 c1_i32_1190 c32_i32_1188
  let v1516 : BitVec 32 := Scalar.remsi v1513 v1515
  let c0_i32_1192 : BitVec 32 := 0#32
  let v1518 : BitVec 1 := Scalar.cmpi .slt v1516 c0_i32_1192
  let c0_i32_1193 : BitVec 32 := 0#32
  let v1519 : BitVec 1 := Scalar.cmpi .slt v1515 c0_i32_1193
  let v1520 : BitVec 1 := Scalar.xori v1518 v1519
  let c0_i32_1191 : BitVec 32 := 0#32
  let v1517 : BitVec 1 := Scalar.cmpi .ne v1516 c0_i32_1191
  let v1521 : BitVec 1 := Scalar.andi v1520 v1517
  let v1522 : BitVec 32 := Scalar.addi v1516 v1515
  let v1523 : BitVec 32 := Scalar.select v1521 v1522 v1516
  let c1_i32_1198 : BitVec 32 := 1#32
  let v1526 : BitVec 32 := Scalar.muli v1523 c1_i32_1198
  let v1527 : BitVec 32 := Scalar.addi c0_i32_1199 v1526
  v1527.toNat
def k0_dev73 (d0 : Dev nD) : Nat :=
  let c0_i32_1214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1202 : BitVec 32 := 11#32
  let v1534 : BitVec 32 := Scalar.addi v2 c11_i32_1202
  let c32_i32_1203 : BitVec 32 := 32#32
  let c0_i32_1204 : BitVec 32 := 0#32
  let v1535 : BitVec 1 := Scalar.cmpi .eq c32_i32_1203 c0_i32_1204
  let c1_i32_1205 : BitVec 32 := 1#32
  let v1536 : BitVec 32 := Scalar.select v1535 c1_i32_1205 c32_i32_1203
  let v1537 : BitVec 32 := Scalar.remsi v1534 v1536
  let c0_i32_1207 : BitVec 32 := 0#32
  let v1539 : BitVec 1 := Scalar.cmpi .slt v1537 c0_i32_1207
  let c0_i32_1208 : BitVec 32 := 0#32
  let v1540 : BitVec 1 := Scalar.cmpi .slt v1536 c0_i32_1208
  let v1541 : BitVec 1 := Scalar.xori v1539 v1540
  let c0_i32_1206 : BitVec 32 := 0#32
  let v1538 : BitVec 1 := Scalar.cmpi .ne v1537 c0_i32_1206
  let v1542 : BitVec 1 := Scalar.andi v1541 v1538
  let v1543 : BitVec 32 := Scalar.addi v1537 v1536
  let v1544 : BitVec 32 := Scalar.select v1542 v1543 v1537
  let c1_i32_1213 : BitVec 32 := 1#32
  let v1547 : BitVec 32 := Scalar.muli v1544 c1_i32_1213
  let v1548 : BitVec 32 := Scalar.addi c0_i32_1214 v1547
  v1548.toNat
def k0_dev74 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1217 : BitVec 32 := 12#32
  let v1555 : BitVec 32 := Scalar.addi v2 c12_i32_1217
  let c32_i32_1218 : BitVec 32 := 32#32
  let c0_i32_1219 : BitVec 32 := 0#32
  let v1556 : BitVec 1 := Scalar.cmpi .eq c32_i32_1218 c0_i32_1219
  let c1_i32_1220 : BitVec 32 := 1#32
  let v1557 : BitVec 32 := Scalar.select v1556 c1_i32_1220 c32_i32_1218
  let v1558 : BitVec 32 := Scalar.remsi v1555 v1557
  let c0_i32_1222 : BitVec 32 := 0#32
  let v1560 : BitVec 1 := Scalar.cmpi .slt v1558 c0_i32_1222
  let c0_i32_1223 : BitVec 32 := 0#32
  let v1561 : BitVec 1 := Scalar.cmpi .slt v1557 c0_i32_1223
  let v1562 : BitVec 1 := Scalar.xori v1560 v1561
  let c0_i32_1221 : BitVec 32 := 0#32
  let v1559 : BitVec 1 := Scalar.cmpi .ne v1558 c0_i32_1221
  let v1563 : BitVec 1 := Scalar.andi v1562 v1559
  let v1564 : BitVec 32 := Scalar.addi v1558 v1557
  let v1565 : BitVec 32 := Scalar.select v1563 v1564 v1558
  let c1_i32_1228 : BitVec 32 := 1#32
  let v1568 : BitVec 32 := Scalar.muli v1565 c1_i32_1228
  let v1569 : BitVec 32 := Scalar.addi c0_i32_1229 v1568
  v1569.toNat
def k0_dev75 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1232 : BitVec 32 := 13#32
  let v1576 : BitVec 32 := Scalar.addi v2 c13_i32_1232
  let c32_i32_1233 : BitVec 32 := 32#32
  let c0_i32_1234 : BitVec 32 := 0#32
  let v1577 : BitVec 1 := Scalar.cmpi .eq c32_i32_1233 c0_i32_1234
  let c1_i32_1235 : BitVec 32 := 1#32
  let v1578 : BitVec 32 := Scalar.select v1577 c1_i32_1235 c32_i32_1233
  let v1579 : BitVec 32 := Scalar.remsi v1576 v1578
  let c0_i32_1237 : BitVec 32 := 0#32
  let v1581 : BitVec 1 := Scalar.cmpi .slt v1579 c0_i32_1237
  let c0_i32_1238 : BitVec 32 := 0#32
  let v1582 : BitVec 1 := Scalar.cmpi .slt v1578 c0_i32_1238
  let v1583 : BitVec 1 := Scalar.xori v1581 v1582
  let c0_i32_1236 : BitVec 32 := 0#32
  let v1580 : BitVec 1 := Scalar.cmpi .ne v1579 c0_i32_1236
  let v1584 : BitVec 1 := Scalar.andi v1583 v1580
  let v1585 : BitVec 32 := Scalar.addi v1579 v1578
  let v1586 : BitVec 32 := Scalar.select v1584 v1585 v1579
  let c1_i32_1243 : BitVec 32 := 1#32
  let v1589 : BitVec 32 := Scalar.muli v1586 c1_i32_1243
  let v1590 : BitVec 32 := Scalar.addi c0_i32_1244 v1589
  v1590.toNat
def k0_dev76 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1247 : BitVec 32 := 14#32
  let v1597 : BitVec 32 := Scalar.addi v2 c14_i32_1247
  let c32_i32_1248 : BitVec 32 := 32#32
  let c0_i32_1249 : BitVec 32 := 0#32
  let v1598 : BitVec 1 := Scalar.cmpi .eq c32_i32_1248 c0_i32_1249
  let c1_i32_1250 : BitVec 32 := 1#32
  let v1599 : BitVec 32 := Scalar.select v1598 c1_i32_1250 c32_i32_1248
  let v1600 : BitVec 32 := Scalar.remsi v1597 v1599
  let c0_i32_1252 : BitVec 32 := 0#32
  let v1602 : BitVec 1 := Scalar.cmpi .slt v1600 c0_i32_1252
  let c0_i32_1253 : BitVec 32 := 0#32
  let v1603 : BitVec 1 := Scalar.cmpi .slt v1599 c0_i32_1253
  let v1604 : BitVec 1 := Scalar.xori v1602 v1603
  let c0_i32_1251 : BitVec 32 := 0#32
  let v1601 : BitVec 1 := Scalar.cmpi .ne v1600 c0_i32_1251
  let v1605 : BitVec 1 := Scalar.andi v1604 v1601
  let v1606 : BitVec 32 := Scalar.addi v1600 v1599
  let v1607 : BitVec 32 := Scalar.select v1605 v1606 v1600
  let c1_i32_1258 : BitVec 32 := 1#32
  let v1610 : BitVec 32 := Scalar.muli v1607 c1_i32_1258
  let v1611 : BitVec 32 := Scalar.addi c0_i32_1259 v1610
  v1611.toNat
def k0_dev77 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1262 : BitVec 32 := 15#32
  let v1618 : BitVec 32 := Scalar.addi v2 c15_i32_1262
  let c32_i32_1263 : BitVec 32 := 32#32
  let c0_i32_1264 : BitVec 32 := 0#32
  let v1619 : BitVec 1 := Scalar.cmpi .eq c32_i32_1263 c0_i32_1264
  let c1_i32_1265 : BitVec 32 := 1#32
  let v1620 : BitVec 32 := Scalar.select v1619 c1_i32_1265 c32_i32_1263
  let v1621 : BitVec 32 := Scalar.remsi v1618 v1620
  let c0_i32_1267 : BitVec 32 := 0#32
  let v1623 : BitVec 1 := Scalar.cmpi .slt v1621 c0_i32_1267
  let c0_i32_1268 : BitVec 32 := 0#32
  let v1624 : BitVec 1 := Scalar.cmpi .slt v1620 c0_i32_1268
  let v1625 : BitVec 1 := Scalar.xori v1623 v1624
  let c0_i32_1266 : BitVec 32 := 0#32
  let v1622 : BitVec 1 := Scalar.cmpi .ne v1621 c0_i32_1266
  let v1626 : BitVec 1 := Scalar.andi v1625 v1622
  let v1627 : BitVec 32 := Scalar.addi v1621 v1620
  let v1628 : BitVec 32 := Scalar.select v1626 v1627 v1621
  let c1_i32_1273 : BitVec 32 := 1#32
  let v1631 : BitVec 32 := Scalar.muli v1628 c1_i32_1273
  let v1632 : BitVec 32 := Scalar.addi c0_i32_1274 v1631
  v1632.toNat
def k0_dev78 (d0 : Dev nD) : Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1277 : BitVec 32 := 16#32
  let v1639 : BitVec 32 := Scalar.addi v2 c16_i32_1277
  let c32_i32_1278 : BitVec 32 := 32#32
  let c0_i32_1279 : BitVec 32 := 0#32
  let v1640 : BitVec 1 := Scalar.cmpi .eq c32_i32_1278 c0_i32_1279
  let c1_i32_1280 : BitVec 32 := 1#32
  let v1641 : BitVec 32 := Scalar.select v1640 c1_i32_1280 c32_i32_1278
  let v1642 : BitVec 32 := Scalar.remsi v1639 v1641
  let c0_i32_1282 : BitVec 32 := 0#32
  let v1644 : BitVec 1 := Scalar.cmpi .slt v1642 c0_i32_1282
  let c0_i32_1283 : BitVec 32 := 0#32
  let v1645 : BitVec 1 := Scalar.cmpi .slt v1641 c0_i32_1283
  let v1646 : BitVec 1 := Scalar.xori v1644 v1645
  let c0_i32_1281 : BitVec 32 := 0#32
  let v1643 : BitVec 1 := Scalar.cmpi .ne v1642 c0_i32_1281
  let v1647 : BitVec 1 := Scalar.andi v1646 v1643
  let v1648 : BitVec 32 := Scalar.addi v1642 v1641
  let v1649 : BitVec 32 := Scalar.select v1647 v1648 v1642
  let c1_i32_1288 : BitVec 32 := 1#32
  let v1652 : BitVec 32 := Scalar.muli v1649 c1_i32_1288
  let v1653 : BitVec 32 := Scalar.addi c0_i32_1289 v1652
  v1653.toNat
def k0_dev79 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1292 : BitVec 32 := 17#32
  let v1660 : BitVec 32 := Scalar.addi v2 c17_i32_1292
  let c32_i32_1293 : BitVec 32 := 32#32
  let c0_i32_1294 : BitVec 32 := 0#32
  let v1661 : BitVec 1 := Scalar.cmpi .eq c32_i32_1293 c0_i32_1294
  let c1_i32_1295 : BitVec 32 := 1#32
  let v1662 : BitVec 32 := Scalar.select v1661 c1_i32_1295 c32_i32_1293
  let v1663 : BitVec 32 := Scalar.remsi v1660 v1662
  let c0_i32_1297 : BitVec 32 := 0#32
  let v1665 : BitVec 1 := Scalar.cmpi .slt v1663 c0_i32_1297
  let c0_i32_1298 : BitVec 32 := 0#32
  let v1666 : BitVec 1 := Scalar.cmpi .slt v1662 c0_i32_1298
  let v1667 : BitVec 1 := Scalar.xori v1665 v1666
  let c0_i32_1296 : BitVec 32 := 0#32
  let v1664 : BitVec 1 := Scalar.cmpi .ne v1663 c0_i32_1296
  let v1668 : BitVec 1 := Scalar.andi v1667 v1664
  let v1669 : BitVec 32 := Scalar.addi v1663 v1662
  let v1670 : BitVec 32 := Scalar.select v1668 v1669 v1663
  let c1_i32_1303 : BitVec 32 := 1#32
  let v1673 : BitVec 32 := Scalar.muli v1670 c1_i32_1303
  let v1674 : BitVec 32 := Scalar.addi c0_i32_1304 v1673
  v1674.toNat
def k0_dev80 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1307 : BitVec 32 := 18#32
  let v1681 : BitVec 32 := Scalar.addi v2 c18_i32_1307
  let c32_i32_1308 : BitVec 32 := 32#32
  let c0_i32_1309 : BitVec 32 := 0#32
  let v1682 : BitVec 1 := Scalar.cmpi .eq c32_i32_1308 c0_i32_1309
  let c1_i32_1310 : BitVec 32 := 1#32
  let v1683 : BitVec 32 := Scalar.select v1682 c1_i32_1310 c32_i32_1308
  let v1684 : BitVec 32 := Scalar.remsi v1681 v1683
  let c0_i32_1312 : BitVec 32 := 0#32
  let v1686 : BitVec 1 := Scalar.cmpi .slt v1684 c0_i32_1312
  let c0_i32_1313 : BitVec 32 := 0#32
  let v1687 : BitVec 1 := Scalar.cmpi .slt v1683 c0_i32_1313
  let v1688 : BitVec 1 := Scalar.xori v1686 v1687
  let c0_i32_1311 : BitVec 32 := 0#32
  let v1685 : BitVec 1 := Scalar.cmpi .ne v1684 c0_i32_1311
  let v1689 : BitVec 1 := Scalar.andi v1688 v1685
  let v1690 : BitVec 32 := Scalar.addi v1684 v1683
  let v1691 : BitVec 32 := Scalar.select v1689 v1690 v1684
  let c1_i32_1318 : BitVec 32 := 1#32
  let v1694 : BitVec 32 := Scalar.muli v1691 c1_i32_1318
  let v1695 : BitVec 32 := Scalar.addi c0_i32_1319 v1694
  v1695.toNat
def k0_dev81 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1322 : BitVec 32 := 19#32
  let v1702 : BitVec 32 := Scalar.addi v2 c19_i32_1322
  let c32_i32_1323 : BitVec 32 := 32#32
  let c0_i32_1324 : BitVec 32 := 0#32
  let v1703 : BitVec 1 := Scalar.cmpi .eq c32_i32_1323 c0_i32_1324
  let c1_i32_1325 : BitVec 32 := 1#32
  let v1704 : BitVec 32 := Scalar.select v1703 c1_i32_1325 c32_i32_1323
  let v1705 : BitVec 32 := Scalar.remsi v1702 v1704
  let c0_i32_1327 : BitVec 32 := 0#32
  let v1707 : BitVec 1 := Scalar.cmpi .slt v1705 c0_i32_1327
  let c0_i32_1328 : BitVec 32 := 0#32
  let v1708 : BitVec 1 := Scalar.cmpi .slt v1704 c0_i32_1328
  let v1709 : BitVec 1 := Scalar.xori v1707 v1708
  let c0_i32_1326 : BitVec 32 := 0#32
  let v1706 : BitVec 1 := Scalar.cmpi .ne v1705 c0_i32_1326
  let v1710 : BitVec 1 := Scalar.andi v1709 v1706
  let v1711 : BitVec 32 := Scalar.addi v1705 v1704
  let v1712 : BitVec 32 := Scalar.select v1710 v1711 v1705
  let c1_i32_1333 : BitVec 32 := 1#32
  let v1715 : BitVec 32 := Scalar.muli v1712 c1_i32_1333
  let v1716 : BitVec 32 := Scalar.addi c0_i32_1334 v1715
  v1716.toNat
def k0_dev82 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1337 : BitVec 32 := 20#32
  let v1723 : BitVec 32 := Scalar.addi v2 c20_i32_1337
  let c32_i32_1338 : BitVec 32 := 32#32
  let c0_i32_1339 : BitVec 32 := 0#32
  let v1724 : BitVec 1 := Scalar.cmpi .eq c32_i32_1338 c0_i32_1339
  let c1_i32_1340 : BitVec 32 := 1#32
  let v1725 : BitVec 32 := Scalar.select v1724 c1_i32_1340 c32_i32_1338
  let v1726 : BitVec 32 := Scalar.remsi v1723 v1725
  let c0_i32_1342 : BitVec 32 := 0#32
  let v1728 : BitVec 1 := Scalar.cmpi .slt v1726 c0_i32_1342
  let c0_i32_1343 : BitVec 32 := 0#32
  let v1729 : BitVec 1 := Scalar.cmpi .slt v1725 c0_i32_1343
  let v1730 : BitVec 1 := Scalar.xori v1728 v1729
  let c0_i32_1341 : BitVec 32 := 0#32
  let v1727 : BitVec 1 := Scalar.cmpi .ne v1726 c0_i32_1341
  let v1731 : BitVec 1 := Scalar.andi v1730 v1727
  let v1732 : BitVec 32 := Scalar.addi v1726 v1725
  let v1733 : BitVec 32 := Scalar.select v1731 v1732 v1726
  let c1_i32_1348 : BitVec 32 := 1#32
  let v1736 : BitVec 32 := Scalar.muli v1733 c1_i32_1348
  let v1737 : BitVec 32 := Scalar.addi c0_i32_1349 v1736
  v1737.toNat
def k0_dev83 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1352 : BitVec 32 := 21#32
  let v1744 : BitVec 32 := Scalar.addi v2 c21_i32_1352
  let c32_i32_1353 : BitVec 32 := 32#32
  let c0_i32_1354 : BitVec 32 := 0#32
  let v1745 : BitVec 1 := Scalar.cmpi .eq c32_i32_1353 c0_i32_1354
  let c1_i32_1355 : BitVec 32 := 1#32
  let v1746 : BitVec 32 := Scalar.select v1745 c1_i32_1355 c32_i32_1353
  let v1747 : BitVec 32 := Scalar.remsi v1744 v1746
  let c0_i32_1357 : BitVec 32 := 0#32
  let v1749 : BitVec 1 := Scalar.cmpi .slt v1747 c0_i32_1357
  let c0_i32_1358 : BitVec 32 := 0#32
  let v1750 : BitVec 1 := Scalar.cmpi .slt v1746 c0_i32_1358
  let v1751 : BitVec 1 := Scalar.xori v1749 v1750
  let c0_i32_1356 : BitVec 32 := 0#32
  let v1748 : BitVec 1 := Scalar.cmpi .ne v1747 c0_i32_1356
  let v1752 : BitVec 1 := Scalar.andi v1751 v1748
  let v1753 : BitVec 32 := Scalar.addi v1747 v1746
  let v1754 : BitVec 32 := Scalar.select v1752 v1753 v1747
  let c1_i32_1363 : BitVec 32 := 1#32
  let v1757 : BitVec 32 := Scalar.muli v1754 c1_i32_1363
  let v1758 : BitVec 32 := Scalar.addi c0_i32_1364 v1757
  v1758.toNat
def k0_dev84 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1367 : BitVec 32 := 22#32
  let v1765 : BitVec 32 := Scalar.addi v2 c22_i32_1367
  let c32_i32_1368 : BitVec 32 := 32#32
  let c0_i32_1369 : BitVec 32 := 0#32
  let v1766 : BitVec 1 := Scalar.cmpi .eq c32_i32_1368 c0_i32_1369
  let c1_i32_1370 : BitVec 32 := 1#32
  let v1767 : BitVec 32 := Scalar.select v1766 c1_i32_1370 c32_i32_1368
  let v1768 : BitVec 32 := Scalar.remsi v1765 v1767
  let c0_i32_1372 : BitVec 32 := 0#32
  let v1770 : BitVec 1 := Scalar.cmpi .slt v1768 c0_i32_1372
  let c0_i32_1373 : BitVec 32 := 0#32
  let v1771 : BitVec 1 := Scalar.cmpi .slt v1767 c0_i32_1373
  let v1772 : BitVec 1 := Scalar.xori v1770 v1771
  let c0_i32_1371 : BitVec 32 := 0#32
  let v1769 : BitVec 1 := Scalar.cmpi .ne v1768 c0_i32_1371
  let v1773 : BitVec 1 := Scalar.andi v1772 v1769
  let v1774 : BitVec 32 := Scalar.addi v1768 v1767
  let v1775 : BitVec 32 := Scalar.select v1773 v1774 v1768
  let c1_i32_1378 : BitVec 32 := 1#32
  let v1778 : BitVec 32 := Scalar.muli v1775 c1_i32_1378
  let v1779 : BitVec 32 := Scalar.addi c0_i32_1379 v1778
  v1779.toNat
def k0_dev85 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1382 : BitVec 32 := 23#32
  let v1786 : BitVec 32 := Scalar.addi v2 c23_i32_1382
  let c32_i32_1383 : BitVec 32 := 32#32
  let c0_i32_1384 : BitVec 32 := 0#32
  let v1787 : BitVec 1 := Scalar.cmpi .eq c32_i32_1383 c0_i32_1384
  let c1_i32_1385 : BitVec 32 := 1#32
  let v1788 : BitVec 32 := Scalar.select v1787 c1_i32_1385 c32_i32_1383
  let v1789 : BitVec 32 := Scalar.remsi v1786 v1788
  let c0_i32_1387 : BitVec 32 := 0#32
  let v1791 : BitVec 1 := Scalar.cmpi .slt v1789 c0_i32_1387
  let c0_i32_1388 : BitVec 32 := 0#32
  let v1792 : BitVec 1 := Scalar.cmpi .slt v1788 c0_i32_1388
  let v1793 : BitVec 1 := Scalar.xori v1791 v1792
  let c0_i32_1386 : BitVec 32 := 0#32
  let v1790 : BitVec 1 := Scalar.cmpi .ne v1789 c0_i32_1386
  let v1794 : BitVec 1 := Scalar.andi v1793 v1790
  let v1795 : BitVec 32 := Scalar.addi v1789 v1788
  let v1796 : BitVec 32 := Scalar.select v1794 v1795 v1789
  let c1_i32_1393 : BitVec 32 := 1#32
  let v1799 : BitVec 32 := Scalar.muli v1796 c1_i32_1393
  let v1800 : BitVec 32 := Scalar.addi c0_i32_1394 v1799
  v1800.toNat
def k0_dev86 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1397 : BitVec 32 := 24#32
  let v1807 : BitVec 32 := Scalar.addi v2 c24_i32_1397
  let c32_i32_1398 : BitVec 32 := 32#32
  let c0_i32_1399 : BitVec 32 := 0#32
  let v1808 : BitVec 1 := Scalar.cmpi .eq c32_i32_1398 c0_i32_1399
  let c1_i32_1400 : BitVec 32 := 1#32
  let v1809 : BitVec 32 := Scalar.select v1808 c1_i32_1400 c32_i32_1398
  let v1810 : BitVec 32 := Scalar.remsi v1807 v1809
  let c0_i32_1402 : BitVec 32 := 0#32
  let v1812 : BitVec 1 := Scalar.cmpi .slt v1810 c0_i32_1402
  let c0_i32_1403 : BitVec 32 := 0#32
  let v1813 : BitVec 1 := Scalar.cmpi .slt v1809 c0_i32_1403
  let v1814 : BitVec 1 := Scalar.xori v1812 v1813
  let c0_i32_1401 : BitVec 32 := 0#32
  let v1811 : BitVec 1 := Scalar.cmpi .ne v1810 c0_i32_1401
  let v1815 : BitVec 1 := Scalar.andi v1814 v1811
  let v1816 : BitVec 32 := Scalar.addi v1810 v1809
  let v1817 : BitVec 32 := Scalar.select v1815 v1816 v1810
  let c1_i32_1408 : BitVec 32 := 1#32
  let v1820 : BitVec 32 := Scalar.muli v1817 c1_i32_1408
  let v1821 : BitVec 32 := Scalar.addi c0_i32_1409 v1820
  v1821.toNat
def k0_dev87 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1412 : BitVec 32 := 25#32
  let v1828 : BitVec 32 := Scalar.addi v2 c25_i32_1412
  let c32_i32_1413 : BitVec 32 := 32#32
  let c0_i32_1414 : BitVec 32 := 0#32
  let v1829 : BitVec 1 := Scalar.cmpi .eq c32_i32_1413 c0_i32_1414
  let c1_i32_1415 : BitVec 32 := 1#32
  let v1830 : BitVec 32 := Scalar.select v1829 c1_i32_1415 c32_i32_1413
  let v1831 : BitVec 32 := Scalar.remsi v1828 v1830
  let c0_i32_1417 : BitVec 32 := 0#32
  let v1833 : BitVec 1 := Scalar.cmpi .slt v1831 c0_i32_1417
  let c0_i32_1418 : BitVec 32 := 0#32
  let v1834 : BitVec 1 := Scalar.cmpi .slt v1830 c0_i32_1418
  let v1835 : BitVec 1 := Scalar.xori v1833 v1834
  let c0_i32_1416 : BitVec 32 := 0#32
  let v1832 : BitVec 1 := Scalar.cmpi .ne v1831 c0_i32_1416
  let v1836 : BitVec 1 := Scalar.andi v1835 v1832
  let v1837 : BitVec 32 := Scalar.addi v1831 v1830
  let v1838 : BitVec 32 := Scalar.select v1836 v1837 v1831
  let c1_i32_1423 : BitVec 32 := 1#32
  let v1841 : BitVec 32 := Scalar.muli v1838 c1_i32_1423
  let v1842 : BitVec 32 := Scalar.addi c0_i32_1424 v1841
  v1842.toNat
def k0_dev88 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1427 : BitVec 32 := 26#32
  let v1849 : BitVec 32 := Scalar.addi v2 c26_i32_1427
  let c32_i32_1428 : BitVec 32 := 32#32
  let c0_i32_1429 : BitVec 32 := 0#32
  let v1850 : BitVec 1 := Scalar.cmpi .eq c32_i32_1428 c0_i32_1429
  let c1_i32_1430 : BitVec 32 := 1#32
  let v1851 : BitVec 32 := Scalar.select v1850 c1_i32_1430 c32_i32_1428
  let v1852 : BitVec 32 := Scalar.remsi v1849 v1851
  let c0_i32_1432 : BitVec 32 := 0#32
  let v1854 : BitVec 1 := Scalar.cmpi .slt v1852 c0_i32_1432
  let c0_i32_1433 : BitVec 32 := 0#32
  let v1855 : BitVec 1 := Scalar.cmpi .slt v1851 c0_i32_1433
  let v1856 : BitVec 1 := Scalar.xori v1854 v1855
  let c0_i32_1431 : BitVec 32 := 0#32
  let v1853 : BitVec 1 := Scalar.cmpi .ne v1852 c0_i32_1431
  let v1857 : BitVec 1 := Scalar.andi v1856 v1853
  let v1858 : BitVec 32 := Scalar.addi v1852 v1851
  let v1859 : BitVec 32 := Scalar.select v1857 v1858 v1852
  let c1_i32_1438 : BitVec 32 := 1#32
  let v1862 : BitVec 32 := Scalar.muli v1859 c1_i32_1438
  let v1863 : BitVec 32 := Scalar.addi c0_i32_1439 v1862
  v1863.toNat
def k0_dev89 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1442 : BitVec 32 := 27#32
  let v1870 : BitVec 32 := Scalar.addi v2 c27_i32_1442
  let c32_i32_1443 : BitVec 32 := 32#32
  let c0_i32_1444 : BitVec 32 := 0#32
  let v1871 : BitVec 1 := Scalar.cmpi .eq c32_i32_1443 c0_i32_1444
  let c1_i32_1445 : BitVec 32 := 1#32
  let v1872 : BitVec 32 := Scalar.select v1871 c1_i32_1445 c32_i32_1443
  let v1873 : BitVec 32 := Scalar.remsi v1870 v1872
  let c0_i32_1447 : BitVec 32 := 0#32
  let v1875 : BitVec 1 := Scalar.cmpi .slt v1873 c0_i32_1447
  let c0_i32_1448 : BitVec 32 := 0#32
  let v1876 : BitVec 1 := Scalar.cmpi .slt v1872 c0_i32_1448
  let v1877 : BitVec 1 := Scalar.xori v1875 v1876
  let c0_i32_1446 : BitVec 32 := 0#32
  let v1874 : BitVec 1 := Scalar.cmpi .ne v1873 c0_i32_1446
  let v1878 : BitVec 1 := Scalar.andi v1877 v1874
  let v1879 : BitVec 32 := Scalar.addi v1873 v1872
  let v1880 : BitVec 32 := Scalar.select v1878 v1879 v1873
  let c1_i32_1453 : BitVec 32 := 1#32
  let v1883 : BitVec 32 := Scalar.muli v1880 c1_i32_1453
  let v1884 : BitVec 32 := Scalar.addi c0_i32_1454 v1883
  v1884.toNat
def k0_dev90 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1457 : BitVec 32 := 28#32
  let v1891 : BitVec 32 := Scalar.addi v2 c28_i32_1457
  let c32_i32_1458 : BitVec 32 := 32#32
  let c0_i32_1459 : BitVec 32 := 0#32
  let v1892 : BitVec 1 := Scalar.cmpi .eq c32_i32_1458 c0_i32_1459
  let c1_i32_1460 : BitVec 32 := 1#32
  let v1893 : BitVec 32 := Scalar.select v1892 c1_i32_1460 c32_i32_1458
  let v1894 : BitVec 32 := Scalar.remsi v1891 v1893
  let c0_i32_1462 : BitVec 32 := 0#32
  let v1896 : BitVec 1 := Scalar.cmpi .slt v1894 c0_i32_1462
  let c0_i32_1463 : BitVec 32 := 0#32
  let v1897 : BitVec 1 := Scalar.cmpi .slt v1893 c0_i32_1463
  let v1898 : BitVec 1 := Scalar.xori v1896 v1897
  let c0_i32_1461 : BitVec 32 := 0#32
  let v1895 : BitVec 1 := Scalar.cmpi .ne v1894 c0_i32_1461
  let v1899 : BitVec 1 := Scalar.andi v1898 v1895
  let v1900 : BitVec 32 := Scalar.addi v1894 v1893
  let v1901 : BitVec 32 := Scalar.select v1899 v1900 v1894
  let c1_i32_1468 : BitVec 32 := 1#32
  let v1904 : BitVec 32 := Scalar.muli v1901 c1_i32_1468
  let v1905 : BitVec 32 := Scalar.addi c0_i32_1469 v1904
  v1905.toNat
def k0_dev91 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1472 : BitVec 32 := 29#32
  let v1912 : BitVec 32 := Scalar.addi v2 c29_i32_1472
  let c32_i32_1473 : BitVec 32 := 32#32
  let c0_i32_1474 : BitVec 32 := 0#32
  let v1913 : BitVec 1 := Scalar.cmpi .eq c32_i32_1473 c0_i32_1474
  let c1_i32_1475 : BitVec 32 := 1#32
  let v1914 : BitVec 32 := Scalar.select v1913 c1_i32_1475 c32_i32_1473
  let v1915 : BitVec 32 := Scalar.remsi v1912 v1914
  let c0_i32_1477 : BitVec 32 := 0#32
  let v1917 : BitVec 1 := Scalar.cmpi .slt v1915 c0_i32_1477
  let c0_i32_1478 : BitVec 32 := 0#32
  let v1918 : BitVec 1 := Scalar.cmpi .slt v1914 c0_i32_1478
  let v1919 : BitVec 1 := Scalar.xori v1917 v1918
  let c0_i32_1476 : BitVec 32 := 0#32
  let v1916 : BitVec 1 := Scalar.cmpi .ne v1915 c0_i32_1476
  let v1920 : BitVec 1 := Scalar.andi v1919 v1916
  let v1921 : BitVec 32 := Scalar.addi v1915 v1914
  let v1922 : BitVec 32 := Scalar.select v1920 v1921 v1915
  let c1_i32_1483 : BitVec 32 := 1#32
  let v1925 : BitVec 32 := Scalar.muli v1922 c1_i32_1483
  let v1926 : BitVec 32 := Scalar.addi c0_i32_1484 v1925
  v1926.toNat
def k0_dev92 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1487 : BitVec 32 := 30#32
  let v1933 : BitVec 32 := Scalar.addi v2 c30_i32_1487
  let c32_i32_1488 : BitVec 32 := 32#32
  let c0_i32_1489 : BitVec 32 := 0#32
  let v1934 : BitVec 1 := Scalar.cmpi .eq c32_i32_1488 c0_i32_1489
  let c1_i32_1490 : BitVec 32 := 1#32
  let v1935 : BitVec 32 := Scalar.select v1934 c1_i32_1490 c32_i32_1488
  let v1936 : BitVec 32 := Scalar.remsi v1933 v1935
  let c0_i32_1492 : BitVec 32 := 0#32
  let v1938 : BitVec 1 := Scalar.cmpi .slt v1936 c0_i32_1492
  let c0_i32_1493 : BitVec 32 := 0#32
  let v1939 : BitVec 1 := Scalar.cmpi .slt v1935 c0_i32_1493
  let v1940 : BitVec 1 := Scalar.xori v1938 v1939
  let c0_i32_1491 : BitVec 32 := 0#32
  let v1937 : BitVec 1 := Scalar.cmpi .ne v1936 c0_i32_1491
  let v1941 : BitVec 1 := Scalar.andi v1940 v1937
  let v1942 : BitVec 32 := Scalar.addi v1936 v1935
  let v1943 : BitVec 32 := Scalar.select v1941 v1942 v1936
  let c1_i32_1498 : BitVec 32 := 1#32
  let v1946 : BitVec 32 := Scalar.muli v1943 c1_i32_1498
  let v1947 : BitVec 32 := Scalar.addi c0_i32_1499 v1946
  v1947.toNat
def k0_dev93 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1502 : BitVec 32 := 31#32
  let v1954 : BitVec 32 := Scalar.addi v2 c31_i32_1502
  let c32_i32_1503 : BitVec 32 := 32#32
  let c0_i32_1504 : BitVec 32 := 0#32
  let v1955 : BitVec 1 := Scalar.cmpi .eq c32_i32_1503 c0_i32_1504
  let c1_i32_1505 : BitVec 32 := 1#32
  let v1956 : BitVec 32 := Scalar.select v1955 c1_i32_1505 c32_i32_1503
  let v1957 : BitVec 32 := Scalar.remsi v1954 v1956
  let c0_i32_1507 : BitVec 32 := 0#32
  let v1959 : BitVec 1 := Scalar.cmpi .slt v1957 c0_i32_1507
  let c0_i32_1508 : BitVec 32 := 0#32
  let v1960 : BitVec 1 := Scalar.cmpi .slt v1956 c0_i32_1508
  let v1961 : BitVec 1 := Scalar.xori v1959 v1960
  let c0_i32_1506 : BitVec 32 := 0#32
  let v1958 : BitVec 1 := Scalar.cmpi .ne v1957 c0_i32_1506
  let v1962 : BitVec 1 := Scalar.andi v1961 v1958
  let v1963 : BitVec 32 := Scalar.addi v1957 v1956
  let v1964 : BitVec 32 := Scalar.select v1962 v1963 v1957
  let c1_i32_1513 : BitVec 32 := 1#32
  let v1967 : BitVec 32 := Scalar.muli v1964 c1_i32_1513
  let v1968 : BitVec 32 := Scalar.addi c0_i32_1514 v1967
  v1968.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S1 : Shape := ⟨1, ![1]⟩
abbrev S_ : Shape := ⟨0, ![]⟩
abbrev S1x1 : Shape := ⟨2, ![1, 1]⟩
abbrev S512x256x512 : Shape := ⟨3, ![512, 256, 512]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S512, .i32⟩
  | .hbm, ⟨5, _⟩ => ⟨S512x1, .i32⟩
  | .hbm, ⟨6, _⟩ => ⟨S1, .i32⟩
  | .hbm, ⟨7, _⟩ => ⟨S_, .i32⟩
  | .hbm, ⟨8, _⟩ => ⟨S512x1, .i32⟩
  | .hbm, ⟨9, _⟩ => ⟨S512x1, .i1⟩
  | .hbm, ⟨10, _⟩ => ⟨S1x1, .i32⟩
  | .hbm, ⟨11, _⟩ => ⟨S512x1, .i32⟩
  | .hbm, ⟨12, _⟩ => ⟨S512x1, .i1⟩
  | .hbm, ⟨13, _⟩ => ⟨S512x1, .i1⟩
  | .hbm, ⟨14, _⟩ => ⟨S_, .i1⟩
  | .hbm, ⟨15, _⟩ => ⟨S512, .i1⟩
  | .hbm, ⟨16, _⟩ => ⟨S512x256x512, .bf16⟩
  | .hbm, ⟨17, _⟩ => ⟨S512x256x512, .i1⟩
  | .hbm, ⟨18, _⟩ => ⟨S_, .bf16⟩
  | .hbm, ⟨19, _⟩ => ⟨S512x256x512, .bf16⟩
  | .hbm, ⟨20, _⟩ => ⟨S512x256x512, .bf16⟩
  | .hbm, ⟨21, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Compact.lean ====
/- The kernel body as one short program: the 31 peers of a device are named by `Fin 31`, and each of
   the body's seven straight-line runs over the peers is one walk along the list of them. The
   printed body is that program. -/
module

public import proofs.«01_k».proof.Proof.Gen.KernelIdeal.Skeleton

@[expose] public section

noncomputable section

namespace Cert.KernelIdeal.Moe

open Idealize.ShloMosaic Idealize.SL.Sem Cert.KernelIdeal.Gen

variable {F : FTy → Type} [FloatOps F]

/-- The 31 peers, in the order the body visits them. -/
def peers : List (Fin 31) :=
  [0, 1, 2, 3, 4, 5, 6, 7, 8, 9, 10, 11, 12, 13, 14, 15, 16, 17, 18, 19, 20, 21, 22, 23, 24, 25, 26, 27, 28, 29, 30]

/-- The programs of one TensorCore. -/
abbrev TcProg (F : FTy → Type) [FloatOps F] (α : Type) := Prog (TpuEff nD τ sig (Elt F) Λ₀ .tc) α

/-- A command for every peer of the list in turn, then the rest of the program. -/
def walk {α : Type} (f : Fin 31 → TcProg F PUnit) : List (Fin 31) → TcProg F α → TcProg F α
  | [], k => k
  | i :: l, k => f i >>= fun _ => walk f l k

/-! ## Where peer `i` is -/

/-- The distance to peer `i`, as the word the body adds to the device's own number. -/
def dist (i : Fin 31) : BitVec 32 := BitVec.ofNat 32 (1 + i.val)

/-- The number of the device at a distance, in the body's own arithmetic. -/
def there (d0 : Dev nD) (w : BitVec 32) : Nat :=
  let v2 : BitVec 32 := Scalar.remsi (Scalar.divsi (Dev.word d0) 1#32) 32#32
  let v4 : BitVec 32 := Scalar.addi v2 w
  let v6 : BitVec 32 := Scalar.select (Scalar.cmpi .eq 32#32 0#32) 1#32 32#32
  let v7 : BitVec 32 := Scalar.remsi v4 v6
  let v11 : BitVec 1 := Scalar.xori (Scalar.cmpi .slt v7 0#32) (Scalar.cmpi .slt v6 0#32)
  let v12 : BitVec 1 := Scalar.andi v11 (Scalar.cmpi .ne v7 0#32)
  let v14 : BitVec 32 := Scalar.select v12 (Scalar.addi v7 v6) v7
  (Scalar.addi 0#32 (Scalar.muli v14 1#32)).toNat

/-- Peer `i` of a device. -/
def peer (c : Dev nD) (i : Fin 31) : Dev nD := c + i.succ

/-- The body's arithmetic finds peer `i`. -/
theorem there_eq : ∀ (c : Dev nD) (i : Fin 31), there c (dist i) = (peer c i).val := by decide +kernel

theorem there_lt (c : Dev nD) (i : Fin 31) : there c (dist i) < nD := by rw [there_eq]; exact (peer c i).isLt

/-- The device the body addresses for peer `i`. -/
def addressed (c : Dev nD) (i : Fin 31) : Dev nD := ⟨there c (dist i), there_lt c i⟩

theorem addressed_eq (c : Dev nD) (i : Fin 31) : addressed c i = peer c i := Fin.ext (there_eq c i)

/-! ## The views -/

theorem inb_slot : ∀ (k : Fin 32), ∀ a, (![k.val, 0, 0] : Fin 3 → Nat) a + S1x16x512.size a ≤ S32x16x512.size a := by decide
theorem words_slot : ∀ (k : Fin 32), (Rect.unit (s := S32x16x512) ![k.val, 0, 0] S1x16x512.size (inb_slot k)).WholeWords (EltTy.packing .bf16) := by decide
theorem inb_sem : ∀ (k : Fin 32), ∀ a, (![k.val] : Fin 1 → Nat) a + S1.size a ≤ S32.size a := by decide

/-- Slot `k` of the slab, as sixteen rows. -/
abbrev slotOf (a : Memref sig .tc .vmem S32x16x512 .bf16) (k : Fin 32) : Memref sig .tc .vmem S16x512 .bf16 :=
  (a.slice (Rect.unit (s := S32x16x512) ![k.val, 0, 0] S1x16x512.size (inb_slot k)) (fun _ => rfl)).squeeze S16x512 squeezes_S1x16x512_S16x512

/-- The rows of a whole array that are peer `i`'s block. -/
abbrev peerRows (a : Memref sig .tc .vmem S512x512 .bf16) (c : Dev nD) (i : Fin 31) : Memref sig .tc .vmem S16x512 .bf16 :=
  a.slice (Rect.unit (s := S512x512) (k0_off1 c (dist i)) S16x512.size (k0_off1_inb c i)) (fun _ => rfl)

/-- The rows of a whole array that are the device's own block. -/
abbrev ownRows (a : Memref sig .tc .vmem S512x512 .bf16) (c : Dev nD) : Memref sig .tc .vmem S16x512 .bf16 :=
  a.slice (Rect.unit (s := S512x512) (k0_off3 c) S16x512.size (k0_off3_inb c)) (fun _ => rfl)

/-- Semaphore `k` of an array of 32. -/
abbrev semOf (a : DmaSems sig S32) (k : Fin 32) : DmaSem sig :=
  ((a.slice (Rect.unit (s := S32) ![k.val] S1.size (inb_sem k))).squeeze S_ squeezes_S1_S_).sem

/-- The barrier's semaphore. -/
abbrev barS : Sem sig := (SemArray.scalar (sig.barrier 0 rfl) : Sems sig S_).sem

/-! ## The program -/

variable (arg0 : Memref sig .tc .vmem S512x256 .bf16) (harg0 : arg0.IsWhole) (arg1 : Memref sig .tc .vmem S512x1 .i32) (harg1 : arg1.IsWhole)
  (arg2 : Memref sig .tc .vmem S2x256x512 .bf16) (harg2 : arg2.IsWhole) (arg3 : Memref sig .tc .vmem S512x512 .f32) (harg3 : arg3.IsWhole)
  (arg4 : Memref sig .tc .vmem S512x512 .bf16) (harg4 : arg4.IsWhole) (arg5 : Memref sig .tc .vmem S32x16x512 .bf16) (harg5 : arg5.IsWhole)
  (arg6 : Memref sig .tc .vmem S512x512 .bf16) (harg6 : arg6.IsWhole) (arg7 arg8 arg9 arg10 : DmaSems sig S32)

/-- Telling a peer that this device is ready. -/
abbrev tell (c : Dev nD) (i : Fin 31) : TcProg F PUnit := semSignalWord (addressed c i) barS 1#32

/-- The first exchange's copy to peer `i`: the peer's rows of this device's partial result, into the peer's slot. -/
abbrev scatterTo (c : Dev nD) (i : Fin 31) : TcProg F PUnit :=
  Prog.lift (.enqueueDma (peerRows arg4 c i) (.remote (Dev.tc (addressed c i)) (slotOf arg5 i.succ) (.dma (semOf arg7 i.succ))) (.dma (semOf arg8 i.succ))
    (harg4.wordExact_slice rfl _ (k0_off1_wordsbf16 c i)) ((harg5.wordExact_slice rfl _ (words_slot i.succ)).reshape _ _) ⟨⟨rfl, Or.inl rfl⟩, trivial⟩)

/-- The wait for the copy that arrives in slot `i`. -/
abbrev scatterIn (c : Dev nD) (i : Fin 31) : TcProg F PUnit :=
  Prog.lift (.waitDma2 (semOf arg8 i.succ) (peerRows arg4 c i) (slotOf arg5 i.succ)
    (harg4.wordExact_slice rfl _ (k0_off1_wordsbf16 c i)) ((harg5.wordExact_slice rfl _ (words_slot i.succ)).reshape _ _))

/-- The wait for this device's own copy to peer `i` to have been read. -/
abbrev scatterOut (c : Dev nD) (i : Fin 31) : TcProg F PUnit :=
  Prog.lift (.waitDma2 (semOf arg7 i.succ) (slotOf arg5 i.succ) (peerRows arg4 c i)
    ((harg5.wordExact_slice rfl _ (words_slot i.succ)).reshape _ _) (harg4.wordExact_slice rfl _ (k0_off1_wordsbf16 c i)))

/-- The second exchange's copy to peer `i`: this device's finished rows, to the same rows there. -/
abbrev gatherTo (c : Dev nD) (i : Fin 31) : TcProg F PUnit :=
  Prog.lift (.enqueueDma (ownRows arg6 c) (.remote (Dev.tc (addressed c i)) (ownRows arg6 c) (.dma (semOf arg9 i.succ))) (.dma (semOf arg10 i.succ))
    (harg6.wordExact_slice rfl _ (k0_off3_wordsbf16 c)) (harg6.wordExact_slice rfl _ (k0_off3_wordsbf16 c)) ⟨⟨rfl, Or.inl rfl⟩, trivial⟩)

/-- A wait of the second exchange, on semaphore `i` of an array. -/
abbrev gatherWait (arr : DmaSems sig S32) (c : Dev nD) (i : Fin 31) : TcProg F PUnit :=
  Prog.lift (.waitDma2 (semOf arr i.succ) (ownRows arg6 c) (ownRows arg6 c)
    (harg6.wordExact_slice rfl _ (k0_off3_wordsbf16 c)) (harg6.wordExact_slice rfl _ (k0_off3_wordsbf16 c)))

/-- After the second exchange has been started: every copy waited for, and the result read and stored. -/
def endPart (c : Dev nD) : TcProg F PUnit :=
  walk (scatterOut arg4 harg4 arg5 harg5 arg7 c) peers <|
  walk (gatherWait arg6 harg6 arg10 c) peers <|
  walk (gatherWait arg6 harg6 arg9 c) peers do
    let v2440 : Vec F S512x512 .bf16 ← Prog.lift (.load arg6 (Rect.unit (s := S512x512) ![0, 0] S512x512.size inb_S512x512_S512x512_0_0).toLoadRect (View.loadsAt_vmem h_S512x512))
    let _ : Vec F S512x512 .f32 ← Prog.lift (.load arg3 (Rect.unit (s := S512x512) ![0, 0] S512x512.size inb_S512x512_S512x512_0_0).toLoadRect (View.loadsAt_vmem h_S512x512))
    Prog.lift (.store arg3 (Rect.unit (s := S512x512) ![0, 0] S512x512.size inb_S512x512_S512x512_0_0) (k0_pay8 v2440) Finset.univ (View.stores_vmem_bits_univ h_S512x512 rfl) (.inl rfl))

/-- After the first exchange has been started: the own block, the arrivals, their sum, and the second exchange started. -/
def middlePart (c : Dev nD) : TcProg F PUnit := do
  let v1094 : Vec F S16x512 .bf16 ← Prog.lift (.load arg4 (Rect.unit (s := S512x512) (k0_off2 c) S16x512.size (k0_off2_inb c)).toLoadRect (View.loadsAt_vmem h_S16x512))
  let _ : Vec F S1x16x512 .bf16 ← Prog.lift (.load arg5 (Rect.unit (s := S32x16x512) ![0, 0, 0] S1x16x512.size inb_S32x16x512_S1x16x512_0_0_0).toLoadRect (View.loadsAt_vmem h_S1x16x512))
  Prog.lift (.store arg5 (Rect.unit (s := S32x16x512) ![0, 0, 0] S1x16x512.size inb_S32x16x512_S1x16x512_0_0_0) (k0_pay6 v1094) Finset.univ (View.stores_vmem h_S1x16x512 (harg5.storeExact_slice rfl _ packedbf16_S32x16x512_S1x16x512_0_0_0) (fun _ => rfl)) (.inl rfl))
  walk (scatterIn arg4 harg4 arg5 harg5 arg8 c) peers do
    let v1315 : Vec F S32x16x512 .bf16 ← Prog.lift (.load arg5 (Rect.unit (s := S32x16x512) ![0, 0, 0] S32x16x512.size inb_S32x16x512_S32x16x512_0_0_0).toLoadRect (View.loadsAt_vmem h_S32x16x512))
    let _ : Vec F S16x512 .bf16 ← Prog.lift (.load arg6 (Rect.unit (s := S512x512) (k0_off2 c) S16x512.size (k0_off2_inb c)).toLoadRect (View.loadsAt_vmem h_S16x512))
    Prog.lift (.store arg6 (Rect.unit (s := S512x512) (k0_off2 c) S16x512.size (k0_off2_inb c)) (k0_pay7 v1315) Finset.univ (View.stores_vmem h_S16x512 (harg6.storeExact_slice rfl _ (k0_off2_packedbf16 c)) (fun _ => rfl)) (.inl rfl))
    walk (gatherTo arg6 harg6 arg9 arg10 c) peers (endPart arg3 arg4 harg4 arg5 harg5 arg6 harg6 arg7 arg9 arg10 c)

/-- The device's own number, as the body computes it. -/
def ownWord (c : Dev nD) : BitVec 32 := Scalar.remsi (Scalar.divsi (Dev.word c) 1#32) 32#32

/-- The partial result, of everything the body reads for it. -/
def partialOf (c : Dev nD) (idx : Vec F S512x1 .i32) (x : Vec F S512x256 .bf16) (w0 w1 : Vec F S1x256x512 .bf16) : FVec F S512x512 .bf16 :=
  k0_pay5 (k0_pay1 (F := F) idx) (k0_pay2 x) (Scalar.muli (ownWord c) 2#32) (k0_pay3 (F := F)) (k0_pay4 (ownWord c) idx x) w0 w1

/-- The whole body. -/
def body : TcProg F PUnit := do
  let c : Dev nD ← Prog.lift .deviceId
  walk (tell c) peers do
    semWaitWord barS 31#32
    let v407 : Vec F S512x1 .i32 ← Prog.lift (.load arg1 (Rect.unit (s := S512x1) ![0, 0] S512x1.size inb_S512x1_S512x1_0_0).toLoadRect (View.loadsAt_vmem h_S512x1))
    let v409 : Vec F S512x256 .bf16 ← Prog.lift (.load arg0 (Rect.unit (s := S512x256) ![0, 0] S512x256.size inb_S512x256_S512x256_0_0).toLoadRect (View.loadsAt_vmem h_S512x256))
    let v421 : Vec F S1x256x512 .bf16 ← Prog.lift (.load arg2 (Rect.unit (s := S2x256x512) ![0, 0, 0] S1x256x512.size inb_S2x256x512_S1x256x512_0_0_0).toLoadRect (View.loadsAt_vmem h_S1x256x512))
    let v433 : Vec F S1x256x512 .bf16 ← Prog.lift (.load arg2 (Rect.unit (s := S2x256x512) ![1, 0, 0] S1x256x512.size inb_S2x256x512_S1x256x512_1_0_0).toLoadRect (View.loadsAt_vmem h_S1x256x512))
    let _ : Vec F S512x512 .bf16 ← Prog.lift (.load arg4 (Rect.unit (s := S512x512) ![0, 0] S512x512.size inb_S512x512_S512x512_0_0).toLoadRect (View.loadsAt_vmem h_S512x512))
    Prog.lift (.store arg4 (Rect.unit (s := S512x512) ![0, 0] S512x512.size inb_S512x512_S512x512_0_0) (partialOf c v407 v409 v421 v433) Finset.univ (View.stores_vmem h_S512x512 (harg4.storeExact_slice rfl _ packedbf16_S512x512_S512x512_0_0) (fun _ => rfl)) (.inl rfl))
    walk (scatterTo arg4 harg4 arg5 harg5 arg7 arg8 c) peers
      (middlePart arg3 arg4 harg4 arg5 harg5 arg6 harg6 arg7 arg8 arg9 arg10 c)

set_option maxRecDepth 65536 in
/-- The printed body is that program. -/
theorem printed_eq : cc0_body (F := F) arg0 harg0 arg1 harg1 arg2 harg2 arg3 harg3 arg4 harg4 arg5 harg5 arg6 harg6 arg7 arg8 arg9 arg10
    = body arg0 arg1 arg2 arg3 arg4 harg4 arg5 harg5 arg6 harg6 arg7 arg8 arg9 arg10 := rfl

end Cert.KernelIdeal.Moe
-- ==== Proof.Places.lean ====
/- Where the kernel's copies and stores put their rows: the blocks of the three scratch buffers as
   index sets, the views' sets as those blocks, and what the buffers hold after each transfer. -/
module

public import proofs.«01_k».proof.Proof.Compact
public import Idealize.ShloMosaic.Lib.ValueIdxCore

@[expose] public section

noncomputable section

namespace Cert.KernelIdeal.Moe

open Idealize.ShloMosaic Idealize.ShloMosaic.ValueIdx Idealize.SL.Sem Cert.KernelIdeal.Gen

variable {F : FTy → Type} [FloatOps F]

/-- The partial result's buffer, -/
abbrev partM : Memref sig .tc .vmem S512x512 .bf16 := Memref.whole cc0_scratch0
/-- the slab of arriving blocks, -/
abbrev slabM : Memref sig .tc .vmem S32x16x512 .bf16 := Memref.whole cc0_scratch1
/-- and the collected result. -/
abbrev accM : Memref sig .tc .vmem S512x512 .bf16 := Memref.whole cc0_scratch2

/-- The sixteen rows of device `b`. -/
def rowSet (b : Dev nD) : Finset S512x512.Idx := Finset.univ.filter fun x => (x 0).val / 16 = b.val
/-- Slot `k` of the slab. -/
def slotSet (k : Fin 32) : Finset S32x16x512.Idx := Finset.univ.filter fun x => (x 0).val = k.val

theorem mem_rowSet {b : Dev nD} {x : S512x512.Idx} : x ∈ rowSet b ↔ (x 0).val / 16 = b.val := by
  unfold rowSet; rw [Finset.mem_filter]; exact ⟨fun h => h.2, fun h => ⟨Finset.mem_univ _, h⟩⟩
theorem mem_slotSet {k : Fin 32} {x : S32x16x512.Idx} : x ∈ slotSet k ↔ (x 0).val = k.val := by
  unfold slotSet; rw [Finset.mem_filter]; exact ⟨fun h => h.2, fun h => ⟨Finset.mem_univ _, h⟩⟩

/-- The blocks are pairwise disjoint. -/
theorem rowSet_disjoint {a b : Dev nD} (h : a ≠ b) : Disjoint (rowSet a) (rowSet b) :=
  Finset.disjoint_left.mpr fun _ h1 h2 => h (Fin.ext ((mem_rowSet.mp h1).symm.trans (mem_rowSet.mp h2)))
theorem slotSet_disjoint {a b : Fin 32} (h : a ≠ b) : Disjoint (slotSet a) (slotSet b) :=
  Finset.disjoint_left.mpr fun _ h1 h2 => h (Fin.ext ((mem_slotSet.mp h1).symm.trans (mem_slotSet.mp h2)))

/-- Going round by the difference arrives. -/
theorem round_trip : ∀ (c d : Fin 32), c + (d - c) = d := by decide +kernel
/-- Going back by the distance returns. -/
theorem round_back : ∀ (c k : Fin 32), c + k - k = c := by decide +kernel

theorem no_way_back : ∀ c : Fin 32, c - 0 = c := by decide

/-- The blocks around device `c` are the whole. -/
theorem rowSet_cover (c : Dev nD) : (Finset.univ : Finset (Fin 32)).biUnion (fun k => rowSet (c + k)) = Finset.univ := by
  refine Finset.eq_univ_of_forall fun x => Finset.mem_biUnion.mpr ?_
  have hx : (x 0).val < 512 := (x 0).isLt
  refine ⟨(⟨(x 0).val / 16, by omega⟩ : Fin 32) - c, Finset.mem_univ _, mem_rowSet.mpr ?_⟩
  exact (congrArg Fin.val (round_trip c ⟨(x 0).val / 16, by omega⟩)).symm
theorem slotSet_cover : (Finset.univ : Finset (Fin 32)).biUnion slotSet = Finset.univ :=
  Finset.eq_univ_of_forall fun x => Finset.mem_biUnion.mpr ⟨x 0, Finset.mem_univ _, mem_slotSet.mpr rfl⟩

/-! ## The offsets the body computes -/

/-- The rows sent to peer `i` start at the peer's block. -/
theorem off1_eq : ∀ (c : Dev nD) (i : Fin 31), k0_off1 c (dist i) = ![16 * (peer c i).val, 0] := by decide +kernel

/-- A unit-stride stretch of sixteen rows is a device's block. -/
theorem rows_mem (b : Dev nD) {off : Fin 2 → Nat} (hoff : off = ![16 * b.val, 0]) (inb) (x : S512x512.Idx) :
    x ∈ (Rect.unit (s := S512x512) off S16x512.size inb).set ↔ x ∈ rowSet b := by
  subst hoff
  rw [Rect.mem_set_unit, mem_rowSet]
  have h1 : (x 1).val < 512 := (x 1).isLt
  constructor
  · intro h
    have h0 := h 0
    have e1 : (![16 * b.val, 0] : Fin 2 → Nat) 0 = 16 * b.val := rfl
    have e2 : S16x512.size 0 = 16 := rfl
    rw [e1, e2] at h0; omega
  · intro h a
    match a with
    | ⟨0, _⟩ =>
      show 16 * b.val ≤ (x 0).val ∧ (x 0).val < 16 * b.val + 16
      omega
    | ⟨1, _⟩ =>
      show 0 ≤ (x 1).val ∧ (x 1).val < 0 + 512
      omega

/-- A slot's rectangle is the slot. -/
theorem slot_mem (k : Fin 32) {off : Fin 3 → Nat} (hoff : off = ![k.val, 0, 0]) (inb) (x : S32x16x512.Idx) :
    x ∈ (Rect.unit (s := S32x16x512) off S1x16x512.size inb).set ↔ x ∈ slotSet k := by
  subst hoff
  rw [Rect.mem_set_unit, mem_slotSet]
  have h1 : (x 1).val < 16 := (x 1).isLt
  have h2 : (x 2).val < 512 := (x 2).isLt
  constructor
  · intro h
    have h0 := h 0
    have e1 : (![k.val, 0, 0] : Fin 3 → Nat) 0 = k.val := rfl
    have e2 : S1x16x512.size 0 = 1 := rfl
    rw [e1, e2] at h0; omega
  · intro h a
    match a with
    | ⟨0, _⟩ =>
      show k.val ≤ (x 0).val ∧ (x 0).val < k.val + 1
      omega
    | ⟨1, _⟩ =>
      show 0 ≤ (x 1).val ∧ (x 1).val < 0 + 16
      omega
    | ⟨2, _⟩ =>
      show 0 ≤ (x 2).val ∧ (x 2).val < 0 + 512
      omega

/-! ## The views' sets -/

theorem peerRows_set (c : Dev nD) (i : Fin 31) : (peerRows partM c i).view.set = rowSet (peer c i) := by
  show ((View.whole cc0_scratch0).slice _).set = _
  rw [View.set_slice_whole]
  exact Finset.ext fun x => rows_mem _ (off1_eq c i) _ x
theorem ownRows_set (c : Dev nD) : (ownRows accM c).view.set = rowSet c := by
  show ((View.whole cc0_scratch2).slice _).set = _
  rw [View.set_slice_whole]
  exact Finset.ext fun x => rows_mem _ (k0_off3_eq c) _ x
theorem slotOf_set (k : Fin 32) : (slotOf slabM k).view.set = slotSet k := by
  show (((View.whole cc0_scratch1).slice _).reshape _ _).set = _
  rw [View.set_reshape, View.set_slice_whole]
  exact Finset.ext fun x => slot_mem k rfl _ x

/-! ## Where the views' elements are -/

/-- A row of a device's block, as a row of the whole. -/
abbrev rowOf (b : Dev nD) (r : Fin 16) : Fin 512 := ⟨16 * b.val + r.val, by have h : b.val < 32 := b.isLt; have := r.isLt; omega⟩

theorem rows_emb (b : Dev nD) {off : Fin 2 → Nat} (hoff : off = ![16 * b.val, 0]) (inb) (r : Fin 16) (j : Fin 512) :
    (Rect.unit (s := S512x512) off S16x512.size inb).emb (ix2 r j) = ix2 (rowOf b r) j := by
  subst hoff
  funext a
  refine Fin.ext ?_
  match a with
  | ⟨0, _⟩ => show 16 * b.val + 1 * r.val = 16 * b.val + r.val; omega
  | ⟨1, _⟩ => show 0 + 1 * j.val = j.val; omega

theorem slot_emb (k : Fin 32) (r : Fin 16) (j : Fin 512) :
    (slotOf slabM k).view.emb (ix2 r j) = ix3 k r j := by
  have h : Shape.reshapeEquiv (s := S1x16x512) (s' := S16x512) (by decide) (ix2 r j) = (ix3 (0 : Fin 1) r j : S1x16x512.Idx) := by
    refine Shape.reshapeEquiv_eq_of_rowMajor _ ?_
    refine (Shape.rowMajor_val_three _).trans (Eq.trans ?_ (Shape.rowMajor_val_two _).symm)
    show (0 * 16 + r.val) * 512 + j.val = r.val * 512 + j.val
    omega
  show (Rect.unit (s := S32x16x512) ![k.val, 0, 0] S1x16x512.size (inb_slot k)).emb (Shape.reshapeEquiv _ (ix2 r j)) = _
  rw [h]
  funext a
  refine Fin.ext ?_
  match a with
  | ⟨0, _⟩ => show k.val + 1 * 0 = k.val; omega
  | ⟨1, _⟩ => show 0 + 1 * r.val = r.val; omega
  | ⟨2, _⟩ => show 0 + 1 * j.val = j.val; omega

/-! ## What the buffers hold -/

variable (P : Dev nD → Vec F S512x512 .bf16)

/-- A slab once every copy is in: slot `k` holds this device's rows of the partial result of the
    device `k` before it. -/
def arrived (c : Dev nD) : Vec F S32x16x512 .bf16 := fun x => P (c - (show Fin 32 from x 0)) (ix2 (rowOf c (x 1)) (x 2))

/-- The device whose block a row is in, -/
abbrev blockOf (x : S512x512.Idx) : Dev nD := ⟨(x 0).val / 16, by have h : (x 0).val < 512 := (x 0).isLt; show _ < 32; omega⟩
/-- and where in the block it is. -/
abbrev inBlock (x : S512x512.Idx) : Fin 16 := ⟨(x 0).val % 16, Nat.mod_lt _ (by decide)⟩

/-- The collected result: every row of it is its device's sum over the slab. -/
def finished : Vec F S512x512 .bf16 := fun x => k0_pay7 (arrived P (blockOf x)) (ix2 (inBlock x) (x 1))

theorem blockOf_row (b : Dev nD) (r : Fin 16) (j : Fin 512) : blockOf (ix2 (rowOf b r) j) = b :=
  Fin.ext (show (16 * b.val + r.val) / 16 = b.val by have := r.isLt; omega)
theorem inBlock_row (b : Dev nD) (r : Fin 16) (j : Fin 512) : inBlock (ix2 (rowOf b r) j) = r :=
  Fin.ext (show (16 * b.val + r.val) % 16 = r.val by have := r.isLt; omega)

/-- A row of a block is given by its place there. -/
theorem of_rowSet {b : Dev nD} {x : S512x512.Idx} (h : x ∈ rowSet b) : x = ix2 (rowOf b (inBlock x)) (x 1) := by
  have h0 := mem_rowSet.mp h
  refine (eq_ix2 x).trans ?_
  congr 1
  refine Fin.ext ?_
  show (x 0).val = 16 * b.val + (x 0).val % 16
  omega
theorem of_slotSet {k : Fin 32} {x : S32x16x512.Idx} (h : x ∈ slotSet k) : x = ix3 k (x 1) (x 2) := by
  refine (eq_ix3 x).trans ?_
  congr 1
  exact Fin.ext (mem_slotSet.mp h)

/-- What a write through a view leaves at an element of it. -/
theorem write_at {sp : Space} {s : Shape} {e : EltTy} (v : View sig .tc sp s e) (f : v.ty.Contents (Elt F)) (w : s.Idx → Elt F e) {x : s.Idx} {y : v.ty.Idx}
    (h : v.emb x = y) : v.write (Elt F) f w Finset.univ y = _root_.cast (congrArg (Elt F) v.elt_eq.symm) (w x) := by
  subst h; exact View.write_emb_of_mem _ _ (Finset.mem_univ _)

/-- The copy to peer `i` leaves the peer's slot as it is in the end. -/
theorem scatter_lands (c : Dev nD) (i : Fin 31) (fd : Vec F S32x16x512 .bf16) : ∀ y ∈ slotSet i.succ,
    (slotOf slabM i.succ).view.write (Elt F) fd ((peerRows partM c i).view.read (Elt F) (P c)) Finset.univ y = arrived P (peer c i) y := by
  intro y hy
  obtain ⟨r, j, rfl⟩ : ∃ (r : Fin 16) (j : Fin 512), y = ix3 i.succ r j := ⟨y 1, y 2, of_slotSet hy⟩
  refine (write_at _ _ _ (slot_emb i.succ r j)).trans ?_
  show P c ((Rect.unit (s := S512x512) (k0_off1 c (dist i)) S16x512.size (k0_off1_inb c i)).emb (ix2 r j))
    = P ((c + i.succ : Fin 32) - i.succ) (ix2 (rowOf (peer c i) r) j)
  exact (congrArg (P c) (rows_emb _ (off1_eq c i) _ r j)).trans (by rw [round_back])

/-- Copying the finished rows leaves them as they are. -/
theorem gather_lands (c : Dev nD) (fd f : Vec F S512x512 .bf16) : ∀ y ∈ rowSet c,
    (ownRows accM c).view.write (Elt F) fd ((ownRows accM c).view.read (Elt F) f) Finset.univ y = f y := by
  intro y hy
  rw [← ownRows_set] at hy
  obtain ⟨x, -, hx⟩ := Finset.mem_map.mp hy
  refine (write_at _ _ _ hx).trans ?_
  exact congrArg f hx

/-- The device's own rows in its slab's slot 0. -/
theorem own_lands (c : Dev nD) (f : Vec F S32x16x512 .bf16) : ∀ y ∈ slotSet 0,
    (slabM.access (Rect.unit (s := S32x16x512) ![0, 0, 0] S1x16x512.size inb_S32x16x512_S1x16x512_0_0_0)).write (Elt F) f
      (k0_pay6 (F := F) (partM.view.readAt (Elt F) (Rect.unit (s := S512x512) (k0_off2 c) S16x512.size (k0_off2_inb c)).toLoadRect (P c))) Finset.univ y
      = arrived P c y := by
  intro y hy
  obtain ⟨r, j, rfl⟩ : ∃ (r : Fin 16) (j : Fin 512), y = ix3 (0 : Fin 32) r j := ⟨y 1, y 2, of_slotSet hy⟩
  have he : (slabM.access (Rect.unit (s := S32x16x512) ![0, 0, 0] S1x16x512.size inb_S32x16x512_S1x16x512_0_0_0)).emb (ix3 (0 : Fin 1) r j)
      = ix3 (0 : Fin 32) r j := by
    funext a
    refine Fin.ext ?_
    match a with
    | ⟨0, _⟩ => rfl
    | ⟨1, _⟩ => show 0 + 1 * r.val = r.val; omega
    | ⟨2, _⟩ => show 0 + 1 * j.val = j.val; omega
  refine (write_at _ _ _ he).trans ?_
  have hc : Shape.reshapeEquiv (s := S16x512) (s' := S1x16x512) (by decide) (ix3 (0 : Fin 1) r j) = (ix2 r j : S16x512.Idx) := by
    refine Shape.reshapeEquiv_eq_of_rowMajor _ ?_
    refine (Shape.rowMajor_val_two _).trans (Eq.trans ?_ (Shape.rowMajor_val_three _).symm)
    show r.val * 512 + j.val = (0 * 16 + r.val) * 512 + j.val
    omega
  show P c ((Rect.unit (s := S512x512) (k0_off2 c) S16x512.size (k0_off2_inb c)).emb (Shape.reshapeEquiv _ (ix3 (0 : Fin 1) r j)))
    = P ((c : Fin 32) - 0) (ix2 (rowOf c r) j)
  rw [hc, rows_emb _ (k0_off2_eq c), show (c : Fin 32) - 0 = c from no_way_back c]

/-- The sum the device stores in its own rows. -/
theorem sum_lands (c : Dev nD) (f : Vec F S512x512 .bf16) : ∀ y ∈ rowSet c,
    (accM.access (Rect.unit (s := S512x512) (k0_off2 c) S16x512.size (k0_off2_inb c))).write (Elt F) f (k0_pay7 (arrived P c)) Finset.univ y
      = finished P y := by
  intro y hy
  obtain ⟨r, j, rfl⟩ : ∃ (r : Fin 16) (j : Fin 512), y = ix2 (rowOf c r) j := ⟨inBlock y, y 1, of_rowSet hy⟩
  refine (write_at _ _ _ (rows_emb c (k0_off2_eq c) (k0_off2_inb c) r j)).trans ?_
  unfold finished
  rw [blockOf_row, inBlock_row]
  rfl

/-! ## What the accesses touch -/

/-- The body's accesses to slot 0 touch slot 0 only, -/
theorem slot_store (M : Finset S1x16x512.Idx) :
    (slabM.access (Rect.unit (s := S32x16x512) ![0, 0, 0] S1x16x512.size inb_S32x16x512_S1x16x512_0_0_0)).setOn M ⊆ slotSet 0 := by
  refine (View.setOn_subset_set _ M).trans ((View.set_slice_whole cc0_scratch1 _).le.trans fun x hx => ?_)
  exact (slot_mem 0 rfl _ x).mp hx
theorem slot_load :
    slabM.view.setOn (Rect.unit (s := S32x16x512) ![0, 0, 0] S1x16x512.size inb_S32x16x512_S1x16x512_0_0_0).toLoadRect.set ⊆ slotSet 0 := by
  intro x hx
  obtain ⟨y, hy, rfl⟩ := Finset.mem_map.mp hx
  exact (slot_mem 0 rfl _ y).mp hy

/-- and its accesses to its own rows touch those only. -/
theorem acc_store (c : Dev nD) (M : Finset S16x512.Idx) :
    (accM.access (Rect.unit (s := S512x512) (k0_off2 c) S16x512.size (k0_off2_inb c))).setOn M ⊆ rowSet c := by
  refine (View.setOn_subset_set _ M).trans ((View.set_slice_whole cc0_scratch2 _).le.trans fun x hx => ?_)
  exact (rows_mem c (k0_off2_eq c) _ x).mp hx
theorem acc_load (c : Dev nD) :
    accM.view.setOn (Rect.unit (s := S512x512) (k0_off2 c) S16x512.size (k0_off2_inb c)).toLoadRect.set ⊆ rowSet c := by
  intro x hx
  obtain ⟨y, hy, rfl⟩ := Finset.mem_map.mp hx
  exact (rows_mem c (k0_off2_eq c) _ y).mp hy
theorem part_load (c : Dev nD) :
    partM.view.setOn (Rect.unit (s := S512x512) (k0_off2 c) S16x512.size (k0_off2_inb c)).toLoadRect.set ⊆ rowSet c := by
  intro x hx
  obtain ⟨y, hy, rfl⟩ := Finset.mem_map.mp hx
  exact (rows_mem c (k0_off2_eq c) _ y).mp hy

end Cert.KernelIdeal.Moe
-- ==== Proof.Schedule.lean ====
/- The protocol of the two exchanges: every device's barrier cell and its 128 copy cells, who adds to
   each of them, what is handed over with each addition, and what every device owes the others. -/
module

public import proofs.«01_k».proof.Proof.Places
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- Copy semaphore `k` of array `a` (first exchange out, in; second exchange out, in). -/
def dsem (a : Fin 4) (k : Fin 32) : DmaSem sig := ⟨4 + (32 * a.val + k.val), by show _ < 132; omega⟩

theorem sem0_eq : ∀ k : Fin 32, semOf cc0_scratch3 k = dsem 0 k := by decide
theorem sem1_eq : ∀ k : Fin 32, semOf cc0_scratch4 k = dsem 1 k := by decide
theorem sem2_eq : ∀ k : Fin 32, semOf cc0_scratch5 k = dsem 2 k := by decide
theorem sem3_eq : ∀ k : Fin 32, semOf cc0_scratch6 k = dsem 3 k := by decide

/-- Which array a copy semaphore is in (4 for the others), -/
def arrOf (q : DmaSem sig) : Nat := if 4 ≤ q.val then (q.val - 4) / 32 else 4
/-- and where in it. -/
def posIn (q : DmaSem sig) : Fin 32 := ⟨(q.val - 4) % 32, Nat.mod_lt _ (by decide)⟩

theorem arrOf_dsem (a : Fin 4) (k : Fin 32) : arrOf (dsem a k) = a.val := by
  unfold arrOf
  rw [if_pos (show 4 ≤ (dsem a k).val from Nat.le_add_right _ _)]
  show (4 + (32 * a.val + k.val) - 4) / 32 = a.val
  omega
theorem posIn_dsem (a : Fin 4) (k : Fin 32) : posIn (dsem a k) = k :=
  Fin.ext (show (4 + (32 * a.val + k.val) - 4) % 32 = k.val by omega)

abbrev barCell (c : Dev nD) : GSem nD τ sig := ((c : Thread nD τ), .reg barS)
abbrev dmaCell (a : Fin 4) (c : Dev nD) (k : Fin 32) : GSem nD τ sig := ((c : Thread nD τ), .dma (dsem a k))

/-- What one copy adds: the credit of sixteen rows. -/
abbrev N : ℕ := (ownRows accM (0 : Fin 32)).view.dmaCredit
theorem N_pos : 0 < N := View.dmaCredit_pos _ (by decide)

/-- Going to peer `i` and back is going to the peer opposite. -/
theorem peer_rev : ∀ (c : Fin 32) (i : Fin 31), peer (peer c i) i.rev = c := by decide +kernel

/-! ## What is handed over -/

variable (P : Dev nD → Vec F S512x512 .bf16)

abbrev partLoc (c : Dev nD) : Loc nD τ sig := (c : Thread nD τ).loc cc0_scratch0
abbrev slabLoc (c : Dev nD) : Loc nD τ sig := (c : Thread nD τ).loc cc0_scratch1
abbrev accLoc (c : Dev nD) : Loc nD τ sig := (c : Thread nD τ).loc cc0_scratch2

/-- Rows of a partial result, at its contents, -/
def partRows (c b : Dev nD) : sProp 𝕄 := partLoc c ↦[rowSet b]{fullShare} (P c : Buf (Elt F) (partLoc c))
/-- a slot of a slab, at given contents, -/
def slotAt (c : Dev nD) (k : Fin 32) (f : Vec F S32x16x512 .bf16) : sProp 𝕄 := slabLoc c ↦[slotSet k]{fullShare} (f : Buf (Elt F) (slabLoc c))
/-- rows of a collected result, at given contents and share. -/
def accRows (c b : Dev nD) (q : PosShare TreeShare) (f : Vec F S512x512 .bf16) : sProp 𝕄 := accLoc c ↦[rowSet b]{q} (f : Buf (Elt F) (accLoc c))

/-- The 32 pieces of the full share: one for each copy of the second exchange, and one kept. -/
abbrev piece (k : Fin 32) : PosShare TreeShare := ShareLeaves.leaf 5 fullShare k

instance partRows_storable (c b : Dev nD) : BI.Storable (upEmb : UEmb _ 𝕄) (partRows P c b) := by unfold partRows; infer_instance
instance slotAt_storable (c : Dev nD) (k : Fin 32) (f) : BI.Storable (upEmb : UEmb _ 𝕄) (slotAt (F := F) c k f) := by unfold slotAt; infer_instance
instance accRows_storable (c b : Dev nD) (q) (f) : BI.Storable (upEmb : UEmb _ 𝕄) (accRows (F := F) c b q f) := by unfold accRows; infer_instance

/-- Peer `i` tells device `c` it is ready: `c` may write its slot in the peer's slab and its own rows there. -/
def barPay (c : Dev nD) (i : Fin 31) : sProp 𝕄 :=
  iprop((∃ f, slotAt (peer c i) i.succ f) ∗ (∃ f, accRows (peer c i) c fullShare f))

/-- What a copy's two ends hand their device. -/
def dmaPay (c : Dev nD) (a : Nat) (k : Fin 32) : sProp 𝕄 :=
  if a = 0 then partRows P c (c + k : Fin 32)
  else if a = 1 then slotAt c k (arrived P c)
  else if a = 2 then accRows c c (piece k) (finished P)
  else accRows c (c - k : Fin 32) fullShare (finished P)

instance barPay_storable (c : Dev nD) (i : Fin 31) : BI.Storable (upEmb : UEmb _ 𝕄) (barPay (F := F) c i) := by unfold barPay; infer_instance
instance dmaPay_storable (c : Dev nD) (a : Nat) (k : Fin 32) : BI.Storable (upEmb : UEmb _ 𝕄) (dmaPay P c a k) := by
  unfold dmaPay; (repeat' split) <;> infer_instance

/-! ## The schedule -/

abbrev IsCopy (g : GSem nD τ sig) : Prop := ∃ q : DmaSem sig, g.2 = .dma q ∧ arrOf q < 4 ∧ posIn q ≠ 0

/-- One round: a barrier cell is added to once by every peer, a copy cell once by its copy. -/
def rd : Rounds.Schedule (GSem nD τ sig) (Fin 31) 𝕄 where
  duties g r := match g.2 with
    | .reg s => if r = 0 ∧ g.1.2 = .tc ∧ s = barS then Finset.univ else ∅
    | .dma q => if r = 0 ∧ g.1.2 = .tc ∧ arrOf q < 4 ∧ posIn q ≠ 0 then {0} else ∅
  unitless _ := False
  amount g _ _ := match g.2 with
    | .reg _ => 1
    | .dma _ => N
  payload g _ d := match g.2 with
    | .reg _ => barPay g.1.1 d
    | .dma q => dmaPay P g.1.1 (arrOf q) (posIn q)
  amount_pos g _ _ _ := by
    match g with
    | (_, .reg _) => exact Nat.one_pos
    | (_, .dma _) => exact N_pos

instance rd_payload_storable (g : GSem nD τ sig) (r : ℕ) (d : Fin 31) :
    BI.Storable (upEmb : UEmb _ 𝕄) ((rd P).payload g r d) := by
  match g with
  | (_, .reg _) => exact barPay_storable _ _
  | (_, .dma _) => exact dmaPay_storable P _ _ _

section Sched
variable (c : Dev nD)

theorem duties_bar : (rd P).duties (barCell c) 0 = Finset.univ := by dsimp only [rd]; exact if_pos ⟨rfl, rfl, rfl⟩
theorem duties_dma (a : Fin 4) (i : Fin 31) : (rd P).duties (dmaCell a c i.succ) 0 = {0} :=
  if_pos ⟨rfl, rfl, by rw [arrOf_dsem]; exact a.isLt, by rw [posIn_dsem]; exact Fin.succ_ne_zero i⟩
theorem duties_idle (a : Fin 4) : ∀ r, 0 ≤ r → (rd P).duties (dmaCell a c 0) r = ∅ :=
  fun r _ => if_neg fun h => h.2.2.2 (posIn_dsem a 0)
theorem duties_later (g : GSem nD τ sig) : ∀ r, 1 ≤ r → (rd P).duties g r = ∅ := by
  intro r hr
  match g with
  | (_, .reg _) => exact if_neg fun h => by omega
  | (_, .dma _) => exact if_neg fun h => by omega

theorem amount_bar (d : Fin 31) : (rd P).amount (barCell c) 0 d = 1 := rfl
theorem amount_dma (a : Fin 4) (k : Fin 32) (d : Fin 31) : (rd P).amount (dmaCell a c k) 0 d = N := rfl

theorem expect_bar : (rd P).expect (barCell c) 0 = 31 := by
  unfold Schedule.expect Schedule.amountOf
  rw [duties_bar, Finset.sum_congr rfl fun d _ => amount_bar P c d, Finset.sum_const, Finset.card_univ, Fintype.card_fin, smul_eq_mul]
theorem expect_dma (a : Fin 4) (i : Fin 31) : (rd P).expect (dmaCell a c i.succ) 0 = N := by
  unfold Schedule.expect Schedule.amountOf; rw [duties_dma, Finset.sum_singleton, amount_dma]

theorem payload_bar (d : Fin 31) : (rd P).payload (barCell c) 0 d = barPay c d := rfl
theorem payload_dma (a : Fin 4) (k : Fin 32) (d : Fin 31) : (rd P).payload (dmaCell a c k) 0 d = dmaPay P c a.val k := by
  show dmaPay P c (arrOf (dsem a k)) (posIn (dsem a k)) = _
  rw [arrOf_dsem, posIn_dsem]

theorem rest_bar : bigSep ((rd P).duties (barCell c) 0 \ ∅) (fun d => (rd P).payload (barCell c) 0 d) = bigSep Finset.univ fun i => barPay c i := by
  rw [Finset.sdiff_empty, duties_bar]; rfl
theorem rest_dma (a : Fin 4) (i : Fin 31) :
    bigSep ((rd P).duties (dmaCell a c i.succ) 0 \ ∅) (fun d => (rd P).payload (dmaCell a c i.succ) 0 d) = dmaPay P c a.val i.succ := by
  rw [Finset.sdiff_empty, duties_dma, bigSep_singleton, payload_dma]

end Sched

/-! ## What every device owes at launch; the levels -/

/-- A debt for every peer of the list, the first one on the outside. -/
def due (f : Fin 31 → CellTallies nD τ sig Unit) : List (Fin 31) → CellTallies nD τ sig Unit
  | [] => 0
  | i :: l => due f l + f i

theorem due_pos {f : Fin 31 → CellTallies nD τ sig Unit} {g : GSem nD τ sig} {u : Unit} : ∀ {l : List (Fin 31)}, 0 < due f l g u → ∃ i, 0 < f i g u
  | [], h => absurd h (Nat.lt_irrefl 0)
  | i :: l, h => by
    unfold due at h
    rw [Pi.add_apply, Finsupp.add_apply] at h
    rcases Nat.eq_zero_or_pos (f i g u) with h0 | h0
    · rw [h0, Nat.add_zero] at h; exact due_pos h
    · exact ⟨i, h0⟩

/-- A unit of each peer's barrier, -/
def barDue (c : Dev nD) (i : Fin 31) : CellTallies nD τ sig Unit := tallyAt (barCell (peer c i)) () 1
/-- and a copy of each exchange. -/
def copyDue (a : Fin 4) (c : Dev nD) (i : Fin 31) : CellTallies nD τ sig Unit := tallyAt (dmaCell a (peer c i) i.succ) () N

def owedLast (c : Dev nD) (l : List (Fin 31)) : CellTallies nD τ sig Unit := due (copyDue 3 c) l
def owedMid (c : Dev nD) (l : List (Fin 31)) : CellTallies nD τ sig Unit := owedLast c peers + due (copyDue 1 c) l
def owedAll (c : Dev nD) (l : List (Fin 31)) : CellTallies nD τ sig Unit := owedMid c peers + due (barDue c) l
/-- What device `c` owes before it starts. -/
def O₀ (c : Dev nD) : CellTallies nD τ sig Unit := owedAll c peers

theorem owedLast_cons (c : Dev nD) (i : Fin 31) (l) : owedLast c (i :: l) = owedLast c l + tallyAt (dmaCell 3 (peer c i) i.succ) () N := rfl
theorem owedMid_cons (c : Dev nD) (i : Fin 31) (l) : owedMid c (i :: l) = owedMid c l + tallyAt (dmaCell 1 (peer c i) i.succ) () N :=
  (add_assoc _ _ _).symm
theorem owedAll_cons (c : Dev nD) (i : Fin 31) (l) : owedAll c (i :: l) = owedAll c l + tallyAt (barCell (peer c i)) () 1 :=
  (add_assoc _ _ _).symm
theorem owedLast_nil (c : Dev nD) : owedLast c [] = 0 := rfl
theorem owedMid_nil (c : Dev nD) : owedMid c [] = owedLast c peers := add_zero _
theorem owedAll_nil (c : Dev nD) : owedAll c [] = owedMid c peers := add_zero _

def L (g : GSem nD τ sig) : Finset Unit := if g.1.2 = .tc then {()} else ∅
/-- Barrier cells at 1, arrivals of the first exchange at 2, of the second at 3, everything else at 0. -/
def lv (g : GSem nD τ sig) (_ : Unit) : ℕ := match g.2 with
  | .reg _ => 1
  | .dma q => if arrOf q = 1 then 2 else if arrOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u u' : Unit} {n : ℕ} (h : 0 < (tallyAt g u n : CellTallies nD τ sig Unit) g' u') : g' = g := by
  by_contra hn
  rw [tallyAt_apply, if_neg fun h' => hn h'.1] at h
  exact Nat.lt_irrefl 0 h

/-- Whatever is owed is owed to TensorCores' cells, at level 3 after the first exchange, -/
theorem owedLast_pos {c : Dev nD} {l : List (Fin 31)} {g : GSem nD τ sig} {u : Unit} (h : 0 < owedLast c l g u) : u ∈ L g ∧ 2 < lv g u := by
  obtain ⟨i, hi⟩ := due_pos h
  rw [tallyAt_pos hi]
  exact ⟨by rw [L_tc]; exact Finset.mem_singleton_self _, by
    show 2 < (if arrOf (dsem 3 i.succ) = 1 then 2 else if arrOf (dsem 3 i.succ) = 3 then 3 else 0)
    rw [arrOf_dsem]; decide⟩
/-- above level 1 after the handshake, -/
theorem owedMid_pos {c : Dev nD} {l : List (Fin 31)} {g : GSem nD τ sig} {u : Unit} (h : 0 < owedMid c l g u) : u ∈ L g ∧ 1 < lv g u := by
  unfold owedMid at h
  rw [Pi.add_apply, Finsupp.add_apply] at h
  rcases Nat.eq_zero_or_pos (due (copyDue 1 c) l g u) with h0 | h0
  · rw [h0, Nat.add_zero] at h
    exact ⟨(owedLast_pos h).1, (by decide : 1 < 2).trans (owedLast_pos h).2⟩
  · obtain ⟨i, hi⟩ := due_pos h0
    rw [tallyAt_pos hi]
    exact ⟨by rw [L_tc]; exact Finset.mem_singleton_self _, by
      show 1 < (if arrOf (dsem 1 i.succ) = 1 then 2 else if arrOf (dsem 1 i.succ) = 3 then 3 else 0)
      rw [arrOf_dsem]; decide⟩
/-- and above level 0 from the start. -/
theorem owedAll_pos {c : Dev nD} {l : List (Fin 31)} {g : GSem nD τ sig} {u : Unit} (h : 0 < owedAll c l g u) : u ∈ L g ∧ 0 < lv g u := by
  unfold owedAll at h
  rw [Pi.add_apply, Finsupp.add_apply] at h
  rcases Nat.eq_zero_or_pos (due (barDue c) l g u) with h0 | h0
  · rw [h0, Nat.add_zero] at h
    exact ⟨(owedMid_pos h).1, (by decide : 0 < 1).trans (owedMid_pos h).2⟩
  · obtain ⟨i, hi⟩ := due_pos h0
    rw [tallyAt_pos hi]
    exact ⟨by rw [L_tc]; exact Finset.mem_singleton_self _, Nat.one_pos⟩

/-- A wait at a level below everything owed is allowed. -/
theorem mayWait (c : Dev nD) (sm : SemLoc sig) (b : ℕ) (O : CellTallies nD τ sig Unit) (hb : lv ((c : Thread nD τ), sm) () ≤ b)
    (hO : ∀ g u, 0 < O g u → u ∈ L g ∧ b < lv g u) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u h => (hO g u h).1)
    (fun p hp => by rw [Finset.mem_singleton.mp hp]; exact hb)
    (fun g u h => (hO g u h).2)

theorem mayWait_bar (c : Dev nD) : (levAts L lv : sProp 𝕄) ⊢ MayWait (c : Thread nD τ) (.reg barS) () (owedMid c peers) :=
  mayWait c _ 1 _ le_rfl fun _ _ => owedMid_pos
theorem mayWait_in (c : Dev nD) (k : Fin 32) : (levAts L lv : sProp 𝕄) ⊢ MayWait (c : Thread nD τ) (.dma (dsem 1 k)) () (owedLast c peers) :=
  mayWait c _ 2 _ (by
    show (if arrOf (dsem 1 k) = 1 then 2 else if arrOf (dsem 1 k) = 3 then 3 else 0) ≤ 2
    rw [arrOf_dsem]; decide) fun _ _ => owedLast_pos
/-- The staging copies' waits, before the body and after it. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine mayWait c _ 0 _ (le_of_eq ?_) fun _ _ => owedAll_pos
    show (if arrOf q = 1 then 2 else if arrOf q = 3 then 3 else 0) = 0
    unfold arrOf
    rw [if_neg (by omega : ¬ 4 ≤ q.val)]; rfl
  · rw [MayWait_zero]; iintro -; iempintro

end Cert.KernelIdeal.Moe
-- ==== Proof.Walks.lean ====
/- The body's seven runs over the peers: what one step of each takes and gives, and so what the whole
   run along the list of peers takes and gives. -/
module

public import proofs.«01_k».proof.Proof.Schedule

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The weakest precondition of a program of device `c`'s TensorCore. -/
abbrev run {α : Type} (c : Dev nD) (k : TcProg F α) (Q : α → sProp 𝕄) : sProp 𝕄 :=
  wp frame (wpE (defs₀ (F := F)) 𝒱₀ (c : Thread nD τ) none) Set.univ k Q

/-! ## One resource for every peer of a list -/

/-- A resource for every peer of the list. -/
def each (Φ : Fin 31 → sProp 𝕄) : List (Fin 31) → sProp 𝕄
  | [] => iprop(emp)
  | i :: l => iprop(Φ i ∗ each Φ l)

theorem each_eq (Φ : Fin 31 → sProp 𝕄) : ∀ l : List (Fin 31), l.Nodup → each Φ l = bigSep l.toFinset Φ
  | [], _ => by rw [List.toFinset_nil, bigSep_empty]; rfl
  | i :: l, h => by
    rw [List.toFinset_cons, bigSep_insert (by rw [List.mem_toFinset]; exact (List.nodup_cons.mp h).1), ← each_eq Φ l (List.nodup_cons.mp h).2]; rfl

/-- Over all the peers it is the resource for every peer. -/
theorem each_peers (Φ : Fin 31 → sProp 𝕄) : each Φ peers = bigSep Finset.univ Φ := by
  rw [each_eq Φ peers (by decide), show peers.toFinset = Finset.univ by decide]

/-- A walk, of its steps. -/
theorem run_walk {α : Type} (c : Dev nD) (f : Fin 31 → TcProg F PUnit) (St : List (Fin 31) → sProp 𝕄) (pre post : Fin 31 → sProp 𝕄)
    (step : ∀ (i : Fin 31) (l : List (Fin 31)) (k : TcProg F α) (Q : α → sProp 𝕄),
      iprop(St (i :: l) ∗ pre i) ⊢ iprop(((St l ∗ post i) -∗ run c k Q) -∗ run c (f i >>= fun _ => k) Q))
    (k : TcProg F α) (Q : α → sProp 𝕄) : ∀ l : List (Fin 31),
      iprop(St l ∗ each pre l) ⊢ iprop(((St [] ∗ each post l) -∗ run c k Q) -∗ run c (walk f l k) Q)
  | [] => by
    unfold each walk
    iintro ⟨HS, -⟩ Hk
    iapply Hk
    isplitl [HS]; · iexact HS
    iempintro
  | i :: l => by
    unfold each walk
    iintro ⟨HS, Hi, Hl⟩ Hk
    iapply (step i l (walk f l k) Q) $$ [HS Hi]
    · isplitl [HS] <;> iassumption
    iintro ⟨HS, Hp⟩
    iapply (run_walk c f St pre post step k Q l) $$ [HS Hl]
    · isplitl [HS] <;> iassumption
    iintro ⟨HS, Hps⟩
    iapply Hk
    isplitl [HS]; · iexact HS
    isplitl [Hp] <;> iassumption

/-! ## The cells and what every device knows of them -/

/-- A device's own cells: its barrier, and its four arrays of copy semaphores. -/
abbrev Own : Type := Unit ⊕ (Fin 4 × Fin 32)

/-- The cell of a device. -/
abbrev kcell (ck : Dev nD × Own) : GSem nD τ sig := match ck.2 with
  | .inl _ => barCell ck.1
  | .inr ak => dmaCell ak.1 ck.1 ak.2

variable (P : Dev nD → Vec F S512x512 .bf16) (K : Dev nD × Own → ℕ)

/-- Every cell's protocol is in force, and has started. -/
def records : sProp 𝕄 :=
  iprop((bigSep Finset.univ fun ck : Dev nD × Own => cellInv ER (rd P) (K ck) (kcell ck))
    ∗ bigSep Finset.univ fun ck : Dev nD × Own => reached ER (kcell ck) 0)

instance records_persistent : BI.Persistent (records P K) := by unfold records; infer_instance

theorem inv_at (ck : Dev nD × Own) : records P K ⊢ cellInv ER (rd P) (K ck) (kcell ck) := by
  unfold records
  have h : (bigSep Finset.univ fun ck : Dev nD × Own => (cellInv ER (rd P) (K ck) (kcell ck) : sProp 𝕄)) ⊢ cellInv ER (rd P) (K ck) (kcell ck) :=
    bigSep_elim (Finset.mem_univ ck)
  iintro ⟨H, -⟩
  iapply h $$ H
theorem reached_at (ck : Dev nD × Own) : records P K ⊢ (reached ER (kcell ck) 0 : sProp 𝕄) := by
  unfold records
  have h : (bigSep Finset.univ fun ck : Dev nD × Own => (reached ER (kcell ck) 0 : sProp 𝕄)) ⊢ reached ER (kcell ck) 0 :=
    bigSep_elim (Finset.mem_univ ck)
  iintro ⟨-, H⟩
  iapply h $$ H
theorem inv_bar (c : Dev nD) : records P K ⊢ cellInv ER (rd P) (K (c, .inl ())) (barCell c) := inv_at P K (c, .inl ())
theorem inv_dma (a : Fin 4) (c : Dev nD) (k : Fin 32) : records P K ⊢ cellInv ER (rd P) (K (c, .inr (a, k))) (dmaCell a c k) := inv_at P K (c, .inr (a, k))
theorem reached_bar (c : Dev nD) : records P K ⊢ (reached ER (barCell c) 0 : sProp 𝕄) := reached_at P K (c, .inl ())
theorem reached_dma (a : Fin 4) (c : Dev nD) (k : Fin 32) : records P K ⊢ (reached ER (dmaCell a c k) 0 : sProp 𝕄) := reached_at P K (c, .inr (a, k))

/-- What a walk carries: what is known of the cells and their levels, and what is still owed. -/
def carry (c : Dev nD) (O : CellTallies nD τ sig Unit) : sProp 𝕄 :=
  iprop(records P K ∗ levAts L lv ∗ ∃ W, owes (c : Thread nD τ) O W)

/-! ## Telling the peers -/

/-- What device `c` gives up to tell peer `i`: the peer's slot of its slab, and the peer's rows of its collected result. -/
def tellPre (c : Dev nD) (i : Fin 31) : sProp 𝕄 :=
  iprop(dutyTok ER (barCell (peer c i)) 0 i.rev ∗ (∃ f, slotAt c i.rev.succ f) ∗ (∃ f, accRows c (peer c i) fullShare f))

theorem tell_step {α : Type} (c : Dev nD) (i : Fin 31) (l : List (Fin 31)) (k : TcProg F α) (Q : α → sProp 𝕄) :
    iprop(carry P K c (owedAll c (i :: l)) ∗ tellPre c i)
      ⊢ iprop(((carry P K c (owedAll c l) ∗ emp) -∗ run c k Q) -∗ run c (tell c i >>= fun _ => k) Q) := by
  unfold carry tellPre tell run
  rw [addressed_eq]
  simp only [semSignalWord, Prog.lift, Prog.bind_op, Prog.bind_ret, Prog.pure_eq_ret]
  iintro ⟨⟨#HR, #Hlev, ⟨%W, HO⟩⟩, Ht, Hs, Hr⟩ Hk
  iapply (Rounds.wp_signal 𝒱₀ ER (rd P) (c : Thread nD τ) none (dst := (peer c i : Thread nD τ)) (κ := K (peer c i, .inl ()))
      (d := i.rev) (by rw [duties_bar]; exact Finset.mem_univ _) ((amount_bar P (peer c i) i.rev).trans (by decide)) () (owedAll c l) (owedAll_cons c i l))
    $$ [HO Ht Hs Hr]
  · isplitr; · iapply (inv_bar P K (peer c i)); iexact HR
    isplitl [HO]; · iexact HO
    isplitl [Ht]; · iexact Ht
    isplitl [Hs Hr]
    · rw [payload_bar]; unfold barPay; rw [peer_rev]
      isplitl [Hs] <;> iassumption
    iapply (reached_bar P K (peer c i)); iexact HR
  iintro HO
  iapply Hk
  isplitl [HO]
  · isplitr; · iexact HR
    isplitr; · iexact Hlev
    iexists W; iexact HO
  iempintro

/-! ## The copies -/

/-- What the first exchange's copy to peer `i` takes, -/
def scatterPre (c : Dev nD) (i : Fin 31) : sProp 𝕄 :=
  iprop(partRows P c (peer c i) ∗ (∃ f, slotAt (peer c i) i.succ f)
    ∗ dutyTok ER (dmaCell 0 c i.succ) 0 0 ∗ dutyTok ER (dmaCell 1 (peer c i) i.succ) 0 0)
/-- and the second's. -/
def gatherPre (c : Dev nD) (i : Fin 31) : sProp 𝕄 :=
  iprop(accRows c c (piece i.succ) (finished P) ∗ (∃ f, accRows (peer c i) c fullShare f)
    ∗ dutyTok ER (dmaCell 2 c i.succ) 0 0 ∗ dutyTok ER (dmaCell 3 (peer c i) i.succ) 0 0)
/-- What a copy of array `a` started gives: a claim on its completion. -/
def copyCred (a : Fin 4) (c : Dev nD) (i : Fin 31) : sProp 𝕄 := cred (tallyAt (dmaCell a c i.succ) () N)

/-- The first exchange's copy, its device and its semaphores given by equations. -/
theorem scatter_copy {α : Type} (c n : Dev nD) (i : Fin 31) (hn : n = peer c i) (sS sR : DmaSem sig) (hS : sS = dsem 0 i.succ) (hR : sR = dsem 1 i.succ)
    {hsc : (slotOf slabM i.succ : Memref sig (Dev.tc n : Thread nD τ).2.kind .vmem S16x512 .bf16).view.ref.isScScratch = false}
    {hsrc : (peerRows partM c i).view.WordExact} {hdst : (slotOf slabM i.succ).view.WordExact}
    {hsem : DmaTarget.Typed .vmem (.dma sR) (.remote (Dev.tc n : Thread nD τ) (slotOf slabM i.succ) (.dma sS) hsc)}
    (k : PUnit → TcProg F α) (Q : α → sProp 𝕄) (fd : Vec F S32x16x512 .bf16) (O₁ O : CellTallies nD τ sig Unit)
    (hO : O₁ = O + tallyAt (dmaCell 1 (peer c i) i.succ) () N) (W : Waits sig Unit) :
    iprop(cellInv ER (rd P) (K (c, .inr (0, i.succ))) (dmaCell 0 c i.succ) ∗ cellInv ER (rd P) (K (peer c i, .inr (1, i.succ))) (dmaCell 1 (peer c i) i.succ)
        ∗ partRows P c (peer c i) ∗ slotAt (peer c i) i.succ fd
        ∗ owes (c : Thread nD τ) O₁ W
        ∗ dutyTok ER (dmaCell 0 c i.succ) 0 0 ∗ reached ER (dmaCell 0 c i.succ) 0
        ∗ dutyTok ER (dmaCell 1 (peer c i) i.succ) 0 0 ∗ reached ER (dmaCell 1 (peer c i) i.succ) 0)
      ⊢ iprop(((copyCred 0 c i ∗ owes (c : Thread nD τ) O W) -∗ run c (k ⟨⟩) Q)
          -∗ run c (.op (.enqueueDma (peerRows partM c i) (.remote (Dev.tc n : Thread nD τ) (slotOf slabM i.succ) (.dma sS) hsc) (.dma sR) hsrc hdst hsem) k) Q) := by
  subst hn hS hR
  unfold partRows slotAt copyCred
  rw [← peerRows_set, ← slotOf_set]
  exact Rounds.wp_send_pointsTo 𝒱₀ ER (rd P) (c : Thread nD τ) none (κ₁ := K (c, .inr (0, i.succ))) (κ₂ := K (peer c i, .inr (1, i.succ)))
    (c' := (peer c i : Thread nD τ)) (src := peerRows partM c i) (dst := slotOf slabM i.succ) (q := fullShare) (r₁ := 0) (r₂ := 0) (d₁ := 0) (d₂ := 0) (fs := P c) (fd := fd)
    (by rw [duties_dma]; exact Finset.mem_singleton_self _) (by rw [duties_dma]; exact Finset.mem_singleton_self _)
    () () N rfl (amount_dma P c 0 i.succ 0) (amount_dma P (peer c i) 1 i.succ 0) O hO (W := W)
    (by rw [payload_dma]; unfold dmaPay partRows; rw [if_pos (by rfl), peerRows_set]; exact BI.Entails.refl _)
    (by
      rw [payload_dma]; unfold dmaPay slotAt; rw [if_neg (by decide), if_pos (by rfl), slotOf_set]
      exact Entails.of_eq (pointsTo_congr (scatter_lands P c i fd)))

/-- The second exchange's copy, likewise. -/
theorem gather_copy {α : Type} (c n : Dev nD) (i : Fin 31) (hn : n = peer c i) (sS sR : DmaSem sig) (hS : sS = dsem 2 i.succ) (hR : sR = dsem 3 i.succ)
    {hsc : (ownRows accM c : Memref sig (Dev.tc n : Thread nD τ).2.kind .vmem S16x512 .bf16).view.ref.isScScratch = false}
    {hsrc : (ownRows accM c).view.WordExact} {hdst : (ownRows accM c).view.WordExact}
    {hsem : DmaTarget.Typed .vmem (.dma sR) (.remote (Dev.tc n : Thread nD τ) (ownRows accM c) (.dma sS) hsc)}
    (k : PUnit → TcProg F α) (Q : α → sProp 𝕄) (fd : Vec F S512x512 .bf16) (O₁ O : CellTallies nD τ sig Unit)
    (hO : O₁ = O + tallyAt (dmaCell 3 (peer c i) i.succ) () N) (W : Waits sig Unit) :
    iprop(cellInv ER (rd P) (K (c, .inr (2, i.succ))) (dmaCell 2 c i.succ) ∗ cellInv ER (rd P) (K (peer c i, .inr (3, i.succ))) (dmaCell 3 (peer c i) i.succ)
        ∗ accRows c c (piece i.succ) (finished P) ∗ accRows (peer c i) c fullShare fd
        ∗ owes (c : Thread nD τ) O₁ W
        ∗ dutyTok ER (dmaCell 2 c i.succ) 0 0 ∗ reached ER (dmaCell 2 c i.succ) 0
        ∗ dutyTok ER (dmaCell 3 (peer c i) i.succ) 0 0 ∗ reached ER (dmaCell 3 (peer c i) i.succ) 0)
      ⊢ iprop(((copyCred 2 c i ∗ owes (c : Thread nD τ) O W) -∗ run c (k ⟨⟩) Q)
          -∗ run c (.op (.enqueueDma (ownRows accM c) (.remote (Dev.tc n : Thread nD τ) (ownRows accM c) (.dma sS) hsc) (.dma sR) hsrc hdst hsem) k) Q) := by
  subst hn hS hR
  unfold accRows copyCred
  rw [← ownRows_set]
  exact Rounds.wp_send_pointsTo 𝒱₀ ER (rd P) (c : Thread nD τ) none (κ₁ := K (c, .inr (2, i.succ))) (κ₂ := K (peer c i, .inr (3, i.succ)))
    (c' := (peer c i : Thread nD τ)) (src := ownRows accM c) (dst := ownRows accM c) (q := piece i.succ) (r₁ := 0) (r₂ := 0) (d₁ := 0) (d₂ := 0) (fs := finished P) (fd := fd)
    (by rw [duties_dma]; exact Finset.mem_singleton_self _) (by rw [duties_dma]; exact Finset.mem_singleton_self _)
    () () N rfl (amount_dma P c 2 i.succ 0) (amount_dma P (peer c i) 3 i.succ 0) O hO (W := W)
    (by rw [payload_dma]; unfold dmaPay accRows; rw [if_neg (by decide), if_neg (by decide), if_pos (by rfl), ownRows_set])
    (by
      rw [payload_dma]; unfold dmaPay accRows; rw [if_neg (by decide), if_neg (by decide), if_neg (by decide), ownRows_set]
      rw [show ((peer c i : Fin 32) - i.succ : Fin 32) = c from round_back c i.succ]
      exact Entails.of_eq (pointsTo_congr (gather_lands c fd (finished P))))

theorem scatter_step {α : Type} (c : Dev nD) (i : Fin 31) (l : List (Fin 31)) (k : TcProg F α) (Q : α → sProp 𝕄) :
    iprop(carry P K c (owedMid c (i :: l)) ∗ scatterPre P c i)
      ⊢ iprop(((carry P K c (owedMid c l) ∗ copyCred 0 c i) -∗ run c k Q)
        -∗ run c (scatterTo partM (Memref.isWhole_whole _) slabM (Memref.isWhole_whole _) cc0_scratch3 cc0_scratch4 c i >>= fun _ => k) Q) := by
  unfold carry scatterPre scatterTo
  simp only [Prog.lift, Prog.bind_op, Prog.bind_ret, Prog.pure_eq_ret]
  iintro ⟨⟨#HR, #Hlev, ⟨%W, HO⟩⟩, Hp, ⟨%fd, Hs⟩, Ht, Ht'⟩ Hk
  iapply (scatter_copy P K c _ i (addressed_eq c i) _ _ (sem0_eq _) (sem1_eq _) _ Q fd _ (owedMid c l) (owedMid_cons c i l) W) $$ [HO Hp Hs Ht Ht']
  · isplitr; · iapply (inv_dma P K 0 c i.succ); iexact HR
    isplitr; · iapply (inv_dma P K 1 (peer c i) i.succ); iexact HR
    isplitl [Hp]; · iexact Hp
    isplitl [Hs]; · iexact Hs
    isplitl [HO]; · iexact HO
    isplitl [Ht]; · iexact Ht
    isplitr; · iapply (reached_dma P K 0 c i.succ); iexact HR
    isplitl [Ht']; · iexact Ht'
    iapply (reached_dma P K 1 (peer c i) i.succ); iexact HR
  iintro ⟨Hc, HO⟩
  iapply Hk
  isplitl [HO]
  · isplitr; · iexact HR
    isplitr; · iexact Hlev
    iexists W; iexact HO
  iexact Hc

theorem gather_step {α : Type} (c : Dev nD) (i : Fin 31) (l : List (Fin 31)) (k : TcProg F α) (Q : α → sProp 𝕄) :
    iprop(carry P K c (owedLast c (i :: l)) ∗ gatherPre P c i)
      ⊢ iprop(((carry P K c (owedLast c l) ∗ copyCred 2 c i) -∗ run c k Q)
        -∗ run c (gatherTo accM (Memref.isWhole_whole _) cc0_scratch5 cc0_scratch6 c i >>= fun _ => k) Q) := by
  unfold carry gatherPre gatherTo
  simp only [Prog.lift, Prog.bind_op, Prog.bind_ret, Prog.pure_eq_ret]
  iintro ⟨⟨#HR, #Hlev, ⟨%W, HO⟩⟩, Hp, ⟨%fd, Hs⟩, Ht, Ht'⟩ Hk
  iapply (gather_copy P K c _ i (addressed_eq c i) _ _ (sem2_eq _) (sem3_eq _) _ Q fd _ (owedLast c l) (owedLast_cons c i l) W) $$ [HO Hp Hs Ht Ht']
  · isplitr; · iapply (inv_dma P K 2 c i.succ); iexact HR
    isplitr; · iapply (inv_dma P K 3 (peer c i) i.succ); iexact HR
    isplitl [Hp]; · iexact Hp
    isplitl [Hs]; · iexact Hs
    isplitl [HO]; · iexact HO
    isplitl [Ht]; · iexact Ht
    isplitr; · iapply (reached_dma P K 2 c i.succ); iexact HR
    isplitl [Ht']; · iexact Ht'
    iapply (reached_dma P K 3 (peer c i) i.succ); iexact HR
  iintro ⟨Hc, HO⟩
  iapply Hk
  isplitl [HO]
  · isplitr; · iexact HR
    isplitr; · iexact Hlev
    iexists W; iexact HO
  iexact Hc

/-! ## The waits -/

/-- What a wait on array `a` takes, -/
def waitPre (a : Fin 4) (c : Dev nD) (i : Fin 31) : sProp 𝕄 := iprop(copyCred a c i ∗ atPos ER (dmaCell a c i.succ) 0 ∅ 0)
/-- and what it gives: what the copy hands over, and the semaphore at zero for good. -/
def waitPost (a : Fin 4) (c : Dev nD) (i : Fin 31) : sProp 𝕄 := iprop(dmaPay P c a.val i.succ ∗ semVal (dmaCell a c i.succ) 0)

/-- A wait on a copy semaphore. -/
theorem wait_copy {α : Type} (a : Fin 4) (c : Dev nD) (i : Fin 31) (O : CellTallies nD τ sig Unit)
    (hmay : (levAts L lv : sProp 𝕄) ⊢ MayWait (c : Thread nD τ) (.dma (dsem a i.succ)) () O)
    (s : DmaSem sig) (hs : s = dsem a i.succ) {sp sp' : Space} (src : Memref sig .tc sp S16x512 .bf16) (dst : Memref sig .tc sp' S16x512 .bf16)
    (hsrc : src.view.WordExact) (hdst : dst.view.WordExact) (hN : dst.view.dmaCredit = N) (k : TcProg F α) (Q : α → sProp 𝕄) :
    iprop(carry P K c O ∗ waitPre a c i)
      ⊢ iprop(((carry P K c O ∗ waitPost P a c i) -∗ run c k Q) -∗ run c (Prog.lift (.waitDma2 s src dst hsrc hdst) >>= fun _ => k) Q) := by
  subst hs
  unfold carry waitPre waitPost copyCred
  simp only [Prog.lift, Prog.bind_op, Prog.bind_ret, Prog.pure_eq_ret]
  iintro ⟨⟨#HR, #Hlev, ⟨%W, HO⟩⟩, Hc, Hat⟩ Hk
  ihave #HI := (inv_dma P K a c i.succ) $$ HR
  iapply (Rounds.wp_wait_rest_token 𝒱₀ ER (rd P) (c : Thread nD τ) none (κ := K (c, .inr (a, i.succ)))
      ((wpE_waitDma2_eq 𝒱₀ (c : Thread nD τ) none Set.univ)) (Set.mem_univ _) () (O := O) (W := W) (R := 0) (m := 0) (T := ∅)
      (by rw [Nat.zero_add, expect_dma, hN])) $$ [Hc HO Hat]
  · isplitr; · iexact HI
    isplitl [Hc]; · rw [hN]; iexact Hc
    isplitl [HO]; · iexact HO
    isplitr; · iapply hmay; iexact Hlev
    iexact Hat
  iintro ⟨HO, Hat, -, Hpay⟩
  ihave Hp := (Entails.of_eq (rest_dma P c a i)) $$ Hpay
  imod (Rounds.cell_close ER (rd P) (Set.mem_univ (K (c, .inr (a, i.succ)))) (fun h => h) (R := 0 + 1) (duties_later P (dmaCell a c i.succ))) $$ [Hat] with Hz
  · isplitr; · iexact HI
    iexact Hat
  iapply Hk
  isplitl [HO]
  · isplitr; · iexact HR
    isplitr; · iexact Hlev
    iexists _; iexact HO
  isplitl [Hp] <;> iassumption

theorem credit_slot : ∀ k : Fin 32, (slotOf slabM k).view.dmaCredit = N := fun _ => rfl
theorem credit_part (c : Dev nD) (i : Fin 31) : (peerRows partM c i).view.dmaCredit = N := rfl
theorem credit_acc (c : Dev nD) : (ownRows accM c).view.dmaCredit = N := rfl

theorem mayWait_none (c : Dev nD) (sm : SemLoc sig) : (levAts L lv : sProp 𝕄) ⊢ MayWait (c : Thread nD τ) sm () 0 := by
  rw [MayWait_zero]; iintro -; iempintro

/-! ## The runs -/

theorem run_tell {α : Type} (c : Dev nD) (k : TcProg F α) (Q : α → sProp 𝕄) :
    iprop(carry P K c (O₀ c) ∗ bigSep Finset.univ (tellPre (F := F) c))
      ⊢ iprop((carry P K c (owedMid c peers) -∗ run c k Q) -∗ run c (walk (tell c) peers k) Q) := by
  rw [← each_peers]
  iintro H Hk
  iapply (run_walk c (tell c) (fun l => carry P K c (owedAll c l)) (tellPre c) (fun _ => iprop(emp)) (fun i l k Q => tell_step P K c i l k Q) k Q peers) $$ [H]
  · iexact H
  rw [owedAll_nil]
  iintro ⟨H, -⟩
  iapply Hk; iexact H

theorem run_scatter {α : Type} (c : Dev nD) (k : TcProg F α) (Q : α → sProp 𝕄) :
    iprop(carry P K c (owedMid c peers) ∗ bigSep Finset.univ (scatterPre P c))
      ⊢ iprop(((carry P K c (owedLast c peers) ∗ bigSep Finset.univ (copyCred (F := F) 0 c)) -∗ run c k Q)
        -∗ run c (walk (scatterTo partM (Memref.isWhole_whole _) slabM (Memref.isWhole_whole _) cc0_scratch3 cc0_scratch4 c) peers k) Q) := by
  rw [← each_peers, ← each_peers]
  iintro H Hk
  iapply (run_walk c _ (fun l => carry P K c (owedMid c l)) (scatterPre P c) (copyCred 0 c) (fun i l k Q => scatter_step P K c i l k Q) k Q peers) $$ [H]
  · iexact H
  rw [owedMid_nil]
  iexact Hk

theorem run_gather {α : Type} (c : Dev nD) (k : TcProg F α) (Q : α → sProp 𝕄) :
    iprop(carry P K c (owedLast c peers) ∗ bigSep Finset.univ (gatherPre P c))
      ⊢ iprop(((carry P K c 0 ∗ bigSep Finset.univ (copyCred (F := F) 2 c)) -∗ run c k Q)
        -∗ run c (walk (gatherTo accM (Memref.isWhole_whole _) cc0_scratch5 cc0_scratch6 c) peers k) Q) := by
  rw [← each_peers, ← each_peers]
  iintro H Hk
  iapply (run_walk c _ (fun l => carry P K c (owedLast c l)) (gatherPre P c) (copyCred 2 c) (fun i l k Q => gather_step P K c i l k Q) k Q peers) $$ [H]
  · iexact H
  rw [owedLast_nil]
  iexact Hk

/-- A run of waits on array `a`. -/
theorem run_waits {α : Type} (a : Fin 4) (c : Dev nD) (O : CellTallies nD τ sig Unit) (f : Fin 31 → TcProg F PUnit)
    (step : ∀ (i : Fin 31) (k : TcProg F α) (Q : α → sProp 𝕄), iprop(carry P K c O ∗ waitPre a c i)
      ⊢ iprop(((carry P K c O ∗ waitPost P a c i) -∗ run c k Q) -∗ run c (f i >>= fun _ => k) Q)) (k : TcProg F α) (Q : α → sProp 𝕄) :
    iprop(carry P K c O ∗ bigSep Finset.univ (waitPre (F := F) a c))
      ⊢ iprop(((carry P K c O ∗ bigSep Finset.univ (waitPost P a c)) -∗ run c k Q) -∗ run c (walk f peers k) Q) := by
  rw [← each_peers, ← each_peers]
  exact run_walk c f (fun _ => carry P K c O) (waitPre a c) (waitPost P a c) (fun i _ k Q => step i k Q) k Q peers

theorem run_scatterIn {α : Type} (c : Dev nD) (k : TcProg F α) (Q : α → sProp 𝕄) :
    iprop(carry P K c (owedLast c peers) ∗ bigSep Finset.univ (waitPre (F := F) 1 c))
      ⊢ iprop(((carry P K c (owedLast c peers) ∗ bigSep Finset.univ (waitPost P 1 c)) -∗ run c k Q)
        -∗ run c (walk (scatterIn partM (Memref.isWhole_whole _) slabM (Memref.isWhole_whole _) cc0_scratch4 c) peers k) Q) :=
  run_waits P K 1 c _ _ (fun i k Q => wait_copy P K 1 c i _ (mayWait_in c i.succ) _ (sem1_eq _) _ _ _ _ (credit_slot _) k Q) k Q
theorem run_scatterOut {α : Type} (c : Dev nD) (k : TcProg F α) (Q : α → sProp 𝕄) :
    iprop(carry P K c 0 ∗ bigSep Finset.univ (waitPre (F := F) 0 c))
      ⊢ iprop(((carry P K c 0 ∗ bigSep Finset.univ (waitPost P 0 c)) -∗ run c k Q)
        -∗ run c (walk (scatterOut partM (Memref.isWhole_whole _) slabM (Memref.isWhole_whole _) cc0_scratch3 c) peers k) Q) :=
  run_waits P K 0 c _ _ (fun i k Q => wait_copy P K 0 c i _ (mayWait_none c _) _ (sem0_eq _) _ _ _ _ (credit_part c i) k Q) k Q
theorem run_gatherIn {α : Type} (c : Dev nD) (k : TcProg F α) (Q : α → sProp 𝕄) :
    iprop(carry P K c 0 ∗ bigSep Finset.univ (waitPre (F := F) 3 c))
      ⊢ iprop(((carry P K c 0 ∗ bigSep Finset.univ (waitPost P 3 c)) -∗ run c k Q)
        -∗ run c (walk (gatherWait accM (Memref.isWhole_whole _) cc0_scratch6 c) peers k) Q) :=
  run_waits P K 3 c _ _ (fun i k Q => wait_copy P K 3 c i _ (mayWait_none c _) _ (sem3_eq _) _ _ _ _ (credit_acc c) k Q) k Q
theorem run_gatherOut {α : Type} (c : Dev nD) (k : TcProg F α) (Q : α → sProp 𝕄) :
    iprop(carry P K c 0 ∗ bigSep Finset.univ (waitPre (F := F) 2 c))
      ⊢ iprop(((carry P K c 0 ∗ bigSep Finset.univ (waitPost P 2 c)) -∗ run c k Q)
        -∗ run c (walk (gatherWait accM (Memref.isWhole_whole _) cc0_scratch5 c) peers k) Q) :=
  run_waits P K 2 c _ _ (fun i k Q => wait_copy P K 2 c i _ (mayWait_none c _) _ (sem2_eq _) _ _ _ _ (credit_acc c) k Q) k Q

end Cert.KernelIdeal.Moe
-- ==== Proof.Split.lean ====
/- How the buffers come apart into the peers' parts and back together. -/
module

public import proofs.«01_k».proof.Proof.Walks

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Counting round -/

theorem add_back : ∀ c k : Fin 32, c + k - c = k := by decide +kernel
theorem sub_sub_self' : ∀ c k : Fin 32, c - (c - k) = k := by decide +kernel
theorem add_zero' : ∀ c : Fin 32, c + 0 = c := by decide

/-- Going forward from a device, -/
def forward (c : Fin 32) : Fin 32 ≃ Fin 32 := ⟨fun k => c + k, fun d => d - c, add_back c, round_trip c⟩
/-- and going back from it. -/
def backward (c : Fin 32) : Fin 32 ≃ Fin 32 := ⟨fun k => c - k, fun k => c - k, sub_sub_self' c, sub_sub_self' c⟩

/-- What there is for every position: for the device itself, and for every peer. -/
theorem bigSep_peers (Φ : Fin 32 → sProp 𝕄) : bigSep Finset.univ Φ = iprop(Φ 0 ∗ bigSep Finset.univ fun i : Fin 31 => Φ i.succ) := by
  rw [Fin.univ_succ, Finset.cons_eq_insert, bigSep_insert (by simp [Fin.succ_ne_zero]), bigSep_map]; rfl

/-- The same positions, their number written otherwise. -/
theorem bigSep_recount {n : Nat} (h : n = 32) (Φ : Fin n → sProp 𝕄) : bigSep Finset.univ Φ = bigSep Finset.univ fun k : Fin 32 => Φ (Fin.cast h.symm k) := by
  subst h; rfl

/-- Over the blocks around a device, forward, -/
theorem bigSep_forward (Φ : Fin 32 → sProp 𝕄) (c : Fin 32) :
    bigSep Finset.univ Φ = iprop(Φ c ∗ bigSep Finset.univ fun i : Fin 31 => Φ (c + i.succ)) := by
  rw [bigSep_univ_equiv (forward c) Φ, bigSep_peers]
  show iprop(Φ (c + 0) ∗ _) = _
  rw [add_zero']; rfl
/-- and back. -/
theorem bigSep_backward (Φ : Fin 32 → sProp 𝕄) (c : Fin 32) :
    bigSep Finset.univ Φ = iprop(Φ c ∗ bigSep Finset.univ fun i : Fin 31 => Φ (c - i.succ)) := by
  rw [bigSep_univ_equiv (backward c) Φ, bigSep_peers]
  show iprop(Φ (c - 0) ∗ _) = _
  rw [no_way_back]; rfl
/-- In the opposite order. -/
theorem bigSep_rev (Φ : Fin 31 → sProp 𝕄) : bigSep Finset.univ (fun i : Fin 31 => Φ i.rev) = bigSep Finset.univ Φ :=
  (bigSep_univ_equiv Fin.revPerm Φ).symm

/-! ## The buffers -/

theorem rowSet_all : (Finset.univ : Finset (Fin 32)).biUnion rowSet = Finset.univ :=
  Finset.eq_univ_of_forall fun x => Finset.mem_biUnion.mpr ⟨blockOf x, Finset.mem_univ _, mem_rowSet.mpr rfl⟩

theorem part_rows (P : Dev nD → Vec F S512x512 .bf16) (c : Dev nD) :
    (partLoc c ↦{fullShare} P c : sProp 𝕄) = bigSep Finset.univ fun b : Fin 32 => partRows P c b := by
  unfold partRows
  refine Eq.trans ?_ (pointsTo_biUnion (ℓ := partLoc c) (q := fullShare) (f := P c) Finset.univ rowSet fun a _ b _ h => rowSet_disjoint h)
  rw [rowSet_all]
theorem acc_rows (c : Dev nD) (f : Vec F S512x512 .bf16) :
    (accLoc c ↦{fullShare} f : sProp 𝕄) = bigSep Finset.univ fun b : Fin 32 => accRows c b fullShare f := by
  unfold accRows
  refine Eq.trans ?_ (pointsTo_biUnion (ℓ := accLoc c) (q := fullShare) (f := f) Finset.univ rowSet fun a _ b _ h => rowSet_disjoint h)
  rw [rowSet_all]
theorem slab_slots (c : Dev nD) (f : Vec F S32x16x512 .bf16) :
    (slabLoc c ↦{fullShare} f : sProp 𝕄) = bigSep Finset.univ fun k : Fin 32 => slotAt c k f := by
  unfold slotAt
  refine Eq.trans ?_ (pointsTo_biUnion (ℓ := slabLoc c) (q := fullShare) (f := f) Finset.univ slotSet fun a _ b _ h => slotSet_disjoint h)
  rw [slotSet_cover]

/-- The partial result: the device's own rows, and every peer's. -/
theorem part_peers (P : Dev nD → Vec F S512x512 .bf16) (c : Dev nD) :
    (partLoc c ↦{fullShare} P c : sProp 𝕄) = iprop(partRows P c c ∗ bigSep Finset.univ fun i : Fin 31 => partRows P c (peer c i)) := by
  rw [part_rows]; exact bigSep_forward (fun b => partRows P c b) c
/-- The collected result: its own rows, and every peer's in the order they are told, -/
theorem acc_peers (c : Dev nD) (f : Vec F S512x512 .bf16) :
    (accLoc c ↦{fullShare} f : sProp 𝕄)
      = iprop(accRows c c fullShare f ∗ bigSep Finset.univ fun i : Fin 31 => accRows c (peer c i) fullShare f) := by
  rw [acc_rows]; exact bigSep_forward (fun b => accRows c b fullShare f) c
/-- and in the order they arrive. -/
theorem acc_arrivals (c : Dev nD) (f : Vec F S512x512 .bf16) :
    (accLoc c ↦{fullShare} f : sProp 𝕄)
      = iprop(accRows c c fullShare f ∗ bigSep Finset.univ fun i : Fin 31 => accRows c ((c : Fin 32) - i.succ : Fin 32) fullShare f) := by
  rw [acc_rows]; exact bigSep_backward (fun b => accRows c b fullShare f) c
/-- The slab: its own slot, and every peer's. -/
theorem slab_peers (c : Dev nD) (f : Vec F S32x16x512 .bf16) :
    (slabLoc c ↦{fullShare} f : sProp 𝕄) = iprop(slotAt c 0 f ∗ bigSep Finset.univ fun i : Fin 31 => slotAt c i.succ f) := by
  rw [slab_slots]; exact bigSep_peers (fun k => slotAt c k f)
/-- The finished rows: a share for keeping, and one for every copy. -/
theorem rows_pieces (c : Dev nD) (f : Vec F S512x512 .bf16) :
    (accRows c c fullShare f : sProp 𝕄)
      = iprop(accRows c c (piece 0) f ∗ bigSep Finset.univ fun i : Fin 31 => accRows c c (piece i.succ) f) := by
  unfold accRows
  rw [ShareLeaves.pointsTo_leaves (ℓ := accLoc c) (rowSet c) f 5 fullShare, bigSep_recount (by decide : 2 ^ 5 = 32)]
  exact bigSep_peers fun k => (accLoc c ↦[rowSet c]{piece k} f : sProp 𝕄)

/-! ## What the waits give -/

variable (P : Dev nD → Vec F S512x512 .bf16) (c : Dev nD)

/-- The semaphores of array `a`, but for the first, at zero. -/
def zeros (a : Fin 4) : sProp 𝕄 := bigSep Finset.univ fun i : Fin 31 => semVal (dmaCell a c i.succ) 0

theorem got_part : bigSep Finset.univ (waitPost P 0 c) ⊢ iprop((bigSep Finset.univ fun i : Fin 31 => partRows P c (peer c i)) ∗ zeros (F := F) c 0) :=
  Entails.of_eq (bigSep_sep' _ _ _)
theorem got_slots : bigSep Finset.univ (waitPost P 1 c) ⊢ iprop((bigSep Finset.univ fun i : Fin 31 => slotAt c i.succ (arrived P c)) ∗ zeros (F := F) c 1) :=
  Entails.of_eq (bigSep_sep' _ _ _)
theorem got_pieces : bigSep Finset.univ (waitPost P 2 c) ⊢ iprop((bigSep Finset.univ fun i : Fin 31 => accRows c c (piece i.succ) (finished P)) ∗ zeros (F := F) c 2) :=
  Entails.of_eq (bigSep_sep' _ _ _)
theorem got_rows : bigSep Finset.univ (waitPost P 3 c)
    ⊢ iprop((bigSep Finset.univ fun i : Fin 31 => accRows c ((c : Fin 32) - i.succ : Fin 32) fullShare (finished P)) ∗ zeros (F := F) c 3) :=
  Entails.of_eq (bigSep_sep' _ _ _)

end Cert.KernelIdeal.Moe
-- ==== Proof.Body.lean ====
/- The body run through, from what a device starts with to what it ends with. -/
module

public import proofs.«01_k».proof.Proof.Split

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The staged blocks -/

abbrev xM : Memref sig .tc .vmem S512x256 .bf16 := Memref.whole cc0_stg0_0
abbrev idxM : Memref sig .tc .vmem S512x1 .i32 := Memref.whole cc0_stg1_0
abbrev wM : Memref sig .tc .vmem S2x256x512 .bf16 := Memref.whole cc0_stg2_0
abbrev outM : Memref sig .tc .vmem S512x512 .f32 := Memref.whole cc0_stg3_0
abbrev xLoc (c : Dev nD) : Loc nD τ sig := (c : Thread nD τ).loc cc0_stg0_0
abbrev idxLoc (c : Dev nD) : Loc nD τ sig := (c : Thread nD τ).loc cc0_stg1_0
abbrev wLoc (c : Dev nD) : Loc nD τ sig := (c : Thread nD τ).loc cc0_stg2_0
abbrev outLoc (c : Dev nD) : Loc nD τ sig := (c : Thread nD τ).loc cc0_stg3_0

/-- The first of the device's two experts, -/
def expert0 (w : Vec F S2x256x512 .bf16) : Vec F S1x256x512 .bf16 :=
  wM.view.readAt (Elt F) (Rect.unit (s := S2x256x512) ![0, 0, 0] S1x256x512.size inb_S2x256x512_S1x256x512_0_0_0).toLoadRect w
/-- and the second. -/
def expert1 (w : Vec F S2x256x512 .bf16) : Vec F S1x256x512 .bf16 :=
  wM.view.readAt (Elt F) (Rect.unit (s := S2x256x512) ![1, 0, 0] S1x256x512.size inb_S2x256x512_S1x256x512_1_0_0).toLoadRect w

theorem hz2 : (![0, 0] : Fin 2 → Nat) = fun _ => 0 := funext fun a => by fin_cases a <;> rfl
theorem hz3 : (![0, 0, 0] : Fin 3 → Nat) = fun _ => 0 := funext fun a => by fin_cases a <;> rfl

theorem read_idx (f : Vec F S512x1 .i32) :
    idxM.view.readAt (Elt F) (Rect.unit (s := S512x1) ![0, 0] S512x1.size inb_S512x1_S512x1_0_0).toLoadRect f = f :=
  Memref.readAt_unit_zero (Elt F) cc0_stg1_0 hz2 _ f
theorem read_x (f : Vec F S512x256 .bf16) :
    xM.view.readAt (Elt F) (Rect.unit (s := S512x256) ![0, 0] S512x256.size inb_S512x256_S512x256_0_0).toLoadRect f = f :=
  Memref.readAt_unit_zero (Elt F) cc0_stg0_0 hz2 _ f
theorem read_slab (f : Vec F S32x16x512 .bf16) :
    slabM.view.readAt (Elt F) (Rect.unit (s := S32x16x512) ![0, 0, 0] S32x16x512.size inb_S32x16x512_S32x16x512_0_0_0).toLoadRect f = f :=
  Memref.readAt_unit_zero (Elt F) cc0_scratch1 hz3 _ f
theorem read_acc (f : Vec F S512x512 .bf16) :
    accM.view.readAt (Elt F) (Rect.unit (s := S512x512) ![0, 0] S512x512.size inb_S512x512_S512x512_0_0).toLoadRect f = f :=
  Memref.readAt_unit_zero (Elt F) cc0_scratch2 hz2 _ f
theorem write_part (f w : Vec F S512x512 .bf16) :
    (partM.access (Rect.unit (s := S512x512) ![0, 0] S512x512.size inb_S512x512_S512x512_0_0)).write (Elt F) f w Finset.univ = w :=
  Memref.write_access_unit_zero_univ (Elt F) cc0_scratch0 hz2 _ f w
theorem write_out (f w : Vec F S512x512 .f32) :
    (outM.access (Rect.unit (s := S512x512) ![0, 0] S512x512.size inb_S512x512_S512x512_0_0)).write (Elt F) f w Finset.univ = w :=
  Memref.write_access_unit_zero_univ (Elt F) cc0_stg3_0 hz2 _ f w

/-! ## Ghost state -/

section
variable (P : Dev nD → Vec F S512x512 .bf16) (K : Dev nD × Own → ℕ) (c : Dev nD)

/-- Where device `c` is in the protocol of array `a`: at the start, on every one of its semaphores. -/
def positions (a : Fin 4) : sProp 𝕄 := bigSep Finset.univ fun k : Fin 32 => atPos ER (dmaCell a c k) 0 ∅ 0

/-- The tokens of the duties device `c` pays. -/
def tokens : sProp 𝕄 :=
  iprop((bigSep Finset.univ fun i : Fin 31 => dutyTok ER (barCell (peer c i)) 0 i.rev)
    ∗ (bigSep Finset.univ fun i : Fin 31 => dutyTok ER (dmaCell 0 c i.succ) 0 0)
    ∗ (bigSep Finset.univ fun i : Fin 31 => dutyTok ER (dmaCell 1 (peer c i) i.succ) 0 0)
    ∗ (bigSep Finset.univ fun i : Fin 31 => dutyTok ER (dmaCell 2 c i.succ) 0 0)
    ∗ (bigSep Finset.univ fun i : Fin 31 => dutyTok ER (dmaCell 3 (peer c i) i.succ) 0 0))

/-- The credits device `c` has at the launch: its peers' signals, and the copies they send it. -/
def credits : sProp 𝕄 :=
  iprop(cred (tallyAt (barCell c) () 31) ∗ (bigSep Finset.univ (copyCred (F := F) 1 c)) ∗ (bigSep Finset.univ (copyCred (F := F) 3 c)))

/-- The ghost state device `c` starts with. -/
def ghost : sProp 𝕄 :=
  iprop(records P K ∗ (atPos ER (barCell c) 0 ∅ 0 ∗ positions c 0 ∗ positions c 1 ∗ positions c 2 ∗ positions c 3) ∗ tokens c)

/-- The own cells of a device at zero: array `a`, -/
def closed (a : Fin 4) : sProp 𝕄 := bigSep Finset.univ fun k : Fin 32 => semVal (dmaCell a c k) 0

/-- and the first semaphore of an array, which nothing uses. -/
theorem close_idle (a : Fin 4) : iprop(records P K ∗ atPos ER (dmaCell a c 0) 0 ∅ 0) ⊢ (|={Set.univ}=> semVal (dmaCell a c 0) 0 : sProp 𝕄) := by
  iintro ⟨#HR, Hat⟩
  iapply (Rounds.cell_close ER (rd P) (Set.mem_univ (K (c, .inr (a, 0)))) (fun h => h) (R := 0) (duties_idle P c a)) $$ [Hat]
  isplitr; · iapply (inv_dma P K a c 0); iexact HR
  iexact Hat

theorem closed_eq (a : Fin 4) : (closed c a : sProp 𝕄) = iprop(semVal (dmaCell a c 0) 0 ∗ zeros c a) := bigSep_peers _

theorem positions_eq (a : Fin 4) : (positions c a : sProp 𝕄)
    = iprop(atPos ER (dmaCell a c 0) 0 ∅ 0 ∗ bigSep Finset.univ fun i : Fin 31 => atPos ER (dmaCell a c i.succ) 0 ∅ 0) := bigSep_peers _

theorem waitPre_join (a : Fin 4) :
    iprop((bigSep Finset.univ (copyCred (F := F) a c)) ∗ (bigSep Finset.univ fun i : Fin 31 => atPos ER (dmaCell a c i.succ) 0 ∅ 0))
      ⊢ bigSep Finset.univ (waitPre (F := F) a c) := Entails.of_eq (bigSep_sep' _ _ _).symm
end

/-! ## The three parts of the body -/

variable (P : Dev nD → Vec F S512x512 .bf16) (K : Dev nD × Own → ℕ) (c : Dev nD)

/-- The copies' credits, and where device `c` is on their semaphores, of array `a`. -/
abbrev atStart (a : Fin 4) : sProp 𝕄 := bigSep Finset.univ fun i : Fin 31 => atPos ER (dmaCell a c i.succ) 0 ∅ 0

/-- What the last part starts from, -/
def endPre (o : Vec F S512x512 .f32) : sProp 𝕄 :=
  iprop(carry P K c 0
    ∗ (bigSep Finset.univ (waitPre (F := F) 0 c) ∗ bigSep Finset.univ (waitPre (F := F) 3 c) ∗ bigSep Finset.univ (waitPre (F := F) 2 c))
    ∗ accRows c c (piece 0) (finished P) ∗ partRows P c c ∗ (slabLoc c ↦{fullShare} arrived P c) ∗ (outLoc c ↦{fullShare} (o : Buf (Elt F) (outLoc c))))
/-- and what it ends with: every buffer whole again, and the result. -/
def endPost : sProp 𝕄 :=
  iprop(carry P K c 0 ∗ (zeros c 0 ∗ zeros c 2 ∗ zeros c 3)
    ∗ (partLoc c ↦{fullShare} P c) ∗ (slabLoc c ↦{fullShare} arrived P c) ∗ (accLoc c ↦{fullShare} finished P)
    ∗ (outLoc c ↦{fullShare} (k0_pay8 (finished P) : Buf (Elt F) (outLoc c))))

theorem run_end (o : Vec F S512x512 .f32) (Q : PUnit → sProp 𝕄) :
    endPre P K c o ⊢ iprop((endPost P K c -∗ Q ⟨⟩)
      -∗ run c (endPart outM partM (Memref.isWhole_whole _) slabM (Memref.isWhole_whole _) accM (Memref.isWhole_whole _) cc0_scratch3 cc0_scratch5 cc0_scratch6 c) Q) := by
  unfold endPre endPart
  iintro ⟨HC, ⟨Hw0, Hw3, Hw2⟩, Hkeep, Hown, Hslab, Hout⟩ Hk
  iapply (run_scatterOut P K c _ Q) $$ [HC Hw0]
  · isplitl [HC] <;> iassumption
  iintro ⟨HC, H0⟩
  iapply (run_gatherIn P K c _ Q) $$ [HC Hw3]
  · isplitl [HC] <;> iassumption
  iintro ⟨HC, H3⟩
  iapply (run_gatherOut P K c _ Q) $$ [HC Hw2]
  · isplitl [HC] <;> iassumption
  iintro ⟨HC, H2⟩
  icases (got_part P c) $$ H0 with ⟨H0, Hz0⟩
  icases (got_rows P c) $$ H3 with ⟨H3, Hz3⟩
  icases (got_pieces P c) $$ H2 with ⟨H2, Hz2⟩
  ihave Hpart := (Entails.of_eq (part_peers P c).symm) $$ [Hown H0]
  · isplitl [Hown] <;> iassumption
  ihave Hrows := (Entails.of_eq (rows_pieces c (finished P)).symm) $$ [Hkeep H2]
  · isplitl [Hkeep] <;> iassumption
  ihave Hacc := (Entails.of_eq (acc_arrivals c (finished P)).symm) $$ [Hrows H3]
  · isplitl [Hrows] <;> iassumption
  unfold run
  simp only [Prog.lift, Prog.bind_op, Prog.bind_ret, Prog.pure_eq_ret]
  iapply (wp_load 𝒱₀ (c : Thread nD τ) none Set.univ (m := accM) (Finset.subset_univ _)) $$ Hacc; iintro Hacc
  rw [read_acc]
  iapply (wp_load 𝒱₀ (c : Thread nD τ) none Set.univ (m := outM) (Finset.subset_univ _)) $$ Hout; iintro Hout
  iapply (wp_store 𝒱₀ (c : Thread nD τ) none Set.univ (m := outM) (r := Rect.unit (s := S512x512) ![0, 0] S512x512.size inb_S512x512_S512x512_0_0)
    (Mk := Finset.univ) (Finset.subset_univ _)) $$ Hout; iintro Hout
  rw [write_out, wp_ret]; imodintro
  iapply Hk
  unfold endPost
  isplitl [HC]; · iexact HC
  isplitl [Hz0 Hz2 Hz3]
  · isplitl [Hz0]; · iexact Hz0
    isplitl [Hz2] <;> iassumption
  isplitl [Hpart]; · iexact Hpart
  isplitl [Hslab]; · iexact Hslab
  isplitl [Hacc]; · iexact Hacc
  iexact Hout

/-- What the second exchange's copies take. -/
theorem gatherPre_join :
    iprop((bigSep Finset.univ fun i : Fin 31 => accRows c c (piece i.succ) (finished P))
      ∗ (bigSep Finset.univ fun i : Fin 31 => iprop(∃ f, accRows (F := F) (peer c i) c fullShare f))
      ∗ (bigSep Finset.univ fun i : Fin 31 => dutyTok ER (dmaCell 2 c i.succ) 0 0)
      ∗ (bigSep Finset.univ fun i : Fin 31 => dutyTok ER (dmaCell 3 (peer c i) i.succ) 0 0))
      ⊢ bigSep Finset.univ (gatherPre P c) := by
  rw [← bigSep_sep', ← bigSep_sep', ← bigSep_sep']; exact Entails.refl _
/-- What the first's take. -/
theorem scatterPre_join :
    iprop((bigSep Finset.univ fun i : Fin 31 => partRows P c (peer c i))
      ∗ (bigSep Finset.univ fun i : Fin 31 => iprop(∃ f, slotAt (F := F) (peer c i) i.succ f))
      ∗ (bigSep Finset.univ fun i : Fin 31 => dutyTok ER (dmaCell 0 c i.succ) 0 0)
      ∗ (bigSep Finset.univ fun i : Fin 31 => dutyTok ER (dmaCell 1 (peer c i) i.succ) 0 0))
      ⊢ bigSep Finset.univ (scatterPre P c) := by
  rw [← bigSep_sep', ← bigSep_sep', ← bigSep_sep']; exact Entails.refl _

/-- What the middle part starts from. -/
def middlePre (s : Vec F S32x16x512 .bf16) (a : Vec F S512x512 .bf16) (o : Vec F S512x512 .f32) : sProp 𝕄 :=
  iprop(carry P K c (owedLast c peers)
    ∗ (bigSep Finset.univ (waitPre (F := F) 0 c) ∗ bigSep Finset.univ (waitPre (F := F) 1 c) ∗ bigSep Finset.univ (waitPre (F := F) 3 c) ∗ atStart c 2)
    ∗ ((bigSep Finset.univ fun i : Fin 31 => iprop(∃ f, accRows (F := F) (peer c i) c fullShare f))
      ∗ (bigSep Finset.univ fun i : Fin 31 => dutyTok ER (dmaCell 2 c i.succ) 0 0)
      ∗ (bigSep Finset.univ fun i : Fin 31 => dutyTok ER (dmaCell 3 (peer c i) i.succ) 0 0))
    ∗ partRows P c c ∗ slotAt c 0 s ∗ accRows c c fullShare a ∗ (outLoc c ↦{fullShare} (o : Buf (Elt F) (outLoc c))))

theorem run_middle (s : Vec F S32x16x512 .bf16) (a : Vec F S512x512 .bf16) (o : Vec F S512x512 .f32) (Q : PUnit → sProp 𝕄) :
    middlePre P K c s a o ⊢ iprop((iprop(zeros c 1 ∗ endPost P K c) -∗ Q ⟨⟩)
      -∗ run c (middlePart outM partM (Memref.isWhole_whole _) slabM (Memref.isWhole_whole _) accM (Memref.isWhole_whole _)
          cc0_scratch3 cc0_scratch4 cc0_scratch5 cc0_scratch6 c) Q) := by
  unfold middlePre middlePart
  simp only [Prog.lift, Prog.bind_op, Prog.bind_ret, Prog.pure_eq_ret]
  iintro ⟨HC, ⟨Hw0, Hw1, Hw3, Hat2⟩, ⟨Hthere, Ht2, Ht3⟩, Hown, Hslot, Hrows, Hout⟩ Hk
  unfold run
  iapply (wp_load 𝒱₀ (c : Thread nD τ) none Set.univ (m := partM) (S := rowSet c) (f := P c) (part_load c)) $$ [Hown]
  · unfold partRows; iexact Hown
  iintro Hown
  iapply (wp_load 𝒱₀ (c : Thread nD τ) none Set.univ (m := slabM) (S := slotSet 0) (f := s) slot_load) $$ [Hslot]
  · unfold slotAt; iexact Hslot
  iintro Hslot
  iapply (wp_store 𝒱₀ (c : Thread nD τ) none Set.univ (m := slabM)
    (r := Rect.unit (s := S32x16x512) ![0, 0, 0] S1x16x512.size inb_S32x16x512_S1x16x512_0_0_0) (Mk := Finset.univ) (S := slotSet 0) (slot_store _)) $$ Hslot
  iintro Hslot
  ihave Hslot := (Entails.of_eq (pointsTo_congr (own_lands P c s))) $$ Hslot
  iapply (run_scatterIn P K c _ Q) $$ [HC Hw1]
  · isplitl [HC] <;> iassumption
  iintro ⟨HC, H1⟩
  icases (got_slots P c) $$ H1 with ⟨H1, Hz1⟩
  ihave Hslab := (Entails.of_eq (slab_peers c (arrived P c)).symm) $$ [Hslot H1]
  · isplitl [Hslot]; · unfold slotAt; iexact Hslot
    iexact H1
  unfold run
  simp only [Prog.lift, Prog.bind_op, Prog.bind_ret, Prog.pure_eq_ret]
  iapply (wp_load 𝒱₀ (c : Thread nD τ) none Set.univ (m := slabM) (Finset.subset_univ _)) $$ Hslab; iintro Hslab
  rw [read_slab]
  iapply (wp_load 𝒱₀ (c : Thread nD τ) none Set.univ (m := accM) (S := rowSet c) (f := a) (acc_load c)) $$ [Hrows]
  · unfold accRows; iexact Hrows
  iintro Hrows
  iapply (wp_store 𝒱₀ (c : Thread nD τ) none Set.univ (m := accM)
    (r := Rect.unit (s := S512x512) (k0_off2 c) S16x512.size (k0_off2_inb c)) (Mk := Finset.univ) (S := rowSet c) (acc_store c _)) $$ Hrows
  iintro Hrows
  ihave Hrows := (Entails.of_eq (pointsTo_congr (sum_lands P c a))) $$ Hrows
  icases (Entails.of_eq (rows_pieces c (finished P))) $$ [Hrows] with ⟨Hkeep, Hpieces⟩
  · unfold accRows; iexact Hrows
  ihave Hg := (gatherPre_join P c) $$ [Hpieces Hthere Ht2 Ht3]
  · isplitl [Hpieces]; · iexact Hpieces
    isplitl [Hthere]; · iexact Hthere
    isplitl [Ht2] <;> iassumption
  iapply (run_gather P K c _ Q) $$ [HC Hg]
  · isplitl [HC] <;> iassumption
  iintro ⟨HC, Hc2⟩
  ihave Hw2 := (waitPre_join (F := F) c 2) $$ [Hc2 Hat2]
  · isplitl [Hc2] <;> iassumption
  iapply (run_end P K c o Q) $$ [HC Hw0 Hw3 Hw2 Hkeep Hown Hslab Hout]
  · unfold endPre
    isplitl [HC]; · iexact HC
    isplitl [Hw0 Hw3 Hw2]
    · isplitl [Hw0]; · iexact Hw0
      isplitl [Hw3] <;> iassumption
    isplitl [Hkeep]; · iexact Hkeep
    isplitl [Hown]; · unfold partRows; iexact Hown
    isplitl [Hslab] <;> iassumption
  iintro H
  iapply Hk
  isplitl [Hz1] <;> iassumption

/-! ## The whole body -/

/-- What telling the peers takes, of a device's slab and collected result. -/
theorem tellPre_join (s : Vec F S32x16x512 .bf16) (a : Vec F S512x512 .bf16) :
    iprop((bigSep Finset.univ fun i : Fin 31 => dutyTok ER (barCell (peer c i)) 0 i.rev)
      ∗ (bigSep Finset.univ fun i : Fin 31 => slotAt (F := F) c i.succ s)
      ∗ (bigSep Finset.univ fun i : Fin 31 => accRows (F := F) c (peer c i) fullShare a))
      ⊢ bigSep Finset.univ (tellPre (F := F) c) := by
  have h (i : Fin 31) : iprop(dutyTok ER (barCell (peer c i)) 0 i.rev ∗ slotAt (F := F) c i.rev.succ s ∗ accRows (F := F) c (peer c i) fullShare a)
      ⊢ tellPre (F := F) c i := by
    unfold tellPre
    iintro ⟨Ht, Hs, Ha⟩
    isplitl [Ht]; · iexact Ht
    isplitl [Hs]; · iexists s; iexact Hs
    iexists a; iexact Ha
  rw [← bigSep_rev (fun i : Fin 31 => slotAt (F := F) c i.succ s), ← bigSep_sep', ← bigSep_sep']
  exact bigSep_mono fun i _ => h i

/-- What the barrier gives. -/
theorem got_bar : (bigSep Finset.univ fun i : Fin 31 => barPay (F := F) c i)
    ⊢ iprop((bigSep Finset.univ fun i : Fin 31 => iprop(∃ f, slotAt (F := F) (peer c i) i.succ f))
      ∗ bigSep Finset.univ fun i : Fin 31 => iprop(∃ f, accRows (F := F) (peer c i) c fullShare f)) := by
  rw [← bigSep_sep']; exact Entails.refl _

/-- The buffers of the kernel's own. -/
def scratch (p : Vec F S512x512 .bf16) (s : Vec F S32x16x512 .bf16) (a : Vec F S512x512 .bf16) : sProp 𝕄 :=
  iprop((partLoc c ↦{fullShare} (p : Buf (Elt F) (partLoc c))) ∗ (slabLoc c ↦{fullShare} (s : Buf (Elt F) (slabLoc c))) ∗ (accLoc c ↦{fullShare} (a : Buf (Elt F) (accLoc c))))

/-- The staged blocks. -/
def staged (x : Vec F S512x256 .bf16) (idx : Vec F S512x1 .i32) (w : Vec F S2x256x512 .bf16) (o : Vec F S512x512 .f32) : sProp 𝕄 :=
  iprop((xLoc c ↦{fullShare} (x : Buf (Elt F) (xLoc c))) ∗ (idxLoc c ↦{fullShare} (idx : Buf (Elt F) (idxLoc c)))
    ∗ (wLoc c ↦{fullShare} (w : Buf (Elt F) (wLoc c))) ∗ (outLoc c ↦{fullShare} (o : Buf (Elt F) (outLoc c))))

/-- Every semaphore of a device at zero. -/
def allZero : sProp 𝕄 := iprop(semVal (barCell c) 0 ∗ closed c 0 ∗ closed c 1 ∗ closed c 2 ∗ closed c 3)

theorem run_body (x : Vec F S512x256 .bf16) (idx : Vec F S512x1 .i32) (w : Vec F S2x256x512 .bf16) (o : Vec F S512x512 .f32)
    (hP : P c = partialOf c idx x (expert0 w) (expert1 w)) (p : Vec F S512x512 .bf16) (s : Vec F S32x16x512 .bf16) (a : Vec F S512x512 .bf16)
    (W : Waits sig Unit) (Q : PUnit → sProp 𝕄) :
    iprop(ghost P K c ∗ credits c ∗ levAts L lv ∗ owes (c : Thread nD τ) (O₀ c) W ∗ scratch c p s a ∗ staged c x idx w o)
      ⊢ iprop((iprop(allZero c ∗ scratch c (P c) (arrived P c) (finished P) ∗ (∃ W', owes (c : Thread nD τ) 0 W') ∗ staged c x idx w (k0_pay8 (finished P))) -∗ Q ⟨⟩)
        -∗ run c (body xM idxM wM outM partM (Memref.isWhole_whole _) slabM (Memref.isWhole_whole _) accM (Memref.isWhole_whole _)
          cc0_scratch3 cc0_scratch4 cc0_scratch5 cc0_scratch6) Q) := by
  unfold ghost credits scratch staged tokens body
  simp only [semWaitWord, Prog.lift, Prog.bind_op, Prog.bind_ret, Prog.pure_eq_ret, wp_deviceId]
  iintro ⟨⟨#HR, ⟨HatB, Hp0, Hp1, Hp2, Hp3⟩, ⟨HtB, Ht0, Ht1, Ht2, Ht3⟩⟩, ⟨HcB, Hc1, Hc3⟩, #Hlev, HO, ⟨Hp, Hs, Ha⟩, ⟨Hx, Hidx, Hw, Hout⟩⟩ Hk
  icases (Entails.of_eq (positions_eq c 0)) $$ Hp0 with ⟨Hi0, Hp0⟩
  icases (Entails.of_eq (positions_eq c 1)) $$ Hp1 with ⟨Hi1, Hp1⟩
  icases (Entails.of_eq (positions_eq c 2)) $$ Hp2 with ⟨Hi2, Hp2⟩
  icases (Entails.of_eq (positions_eq c 3)) $$ Hp3 with ⟨Hi3, Hp3⟩
  icases (Entails.of_eq (slab_peers c s)) $$ Hs with ⟨Hslot, Hslots⟩
  icases (Entails.of_eq (acc_peers c a)) $$ Ha with ⟨Hrows, Hothers⟩
  ihave Htell := (tellPre_join c s a) $$ [HtB Hslots Hothers]
  · isplitl [HtB]; · iexact HtB
    isplitl [Hslots] <;> iassumption
  iapply (run_tell P K c _ Q) $$ [HO Htell]
  · isplitl [HO]
    · unfold carry
      isplitr; · iexact HR
      isplitr; · iexact Hlev
      iexists W; iexact HO
    iexact Htell
  unfold carry
  iintro ⟨-, -, ⟨%W₁, HO⟩⟩
  ihave #HI := (inv_bar P K c) $$ HR
  unfold run
  iapply (Rounds.wp_wait_rest_token 𝒱₀ ER (rd P) (c : Thread nD τ) none (κ := K (c, .inl ()))
      (wpE_semWait_eq 𝒱₀ (c : Thread nD τ) none Set.univ) (Set.mem_univ _) () (O := owedMid c peers) (W := W₁) (R := 0) (m := 0) (T := ∅)
      (by rw [expect_bar]; decide)) $$ [HcB HO HatB]
  · isplitr; · iexact HI
    isplitl [HcB]; · iexact HcB
    isplitl [HO]; · iexact HO
    isplitr; · iapply (mayWait_bar c); iexact Hlev
    iexact HatB
  iintro ⟨HO, HatB, -, Hpay⟩
  ihave Hbar := (Entails.of_eq (rest_bar P c)) $$ Hpay
  icases (got_bar c) $$ Hbar with ⟨Hslots, Hthere⟩
  imod (Rounds.cell_close ER (rd P) (Set.mem_univ (K (c, .inl ()))) (fun h => h) (R := 0 + 1) (duties_later P (barCell c))) $$ [HatB] with HzB
  · isplitr; · iexact HI
    iexact HatB
  imod (close_idle P K c 0) $$ [Hi0] with Hi0
  · isplitr; · iexact HR
    iexact Hi0
  imod (close_idle P K c 1) $$ [Hi1] with Hi1
  · isplitr; · iexact HR
    iexact Hi1
  imod (close_idle P K c 2) $$ [Hi2] with Hi2
  · isplitr; · iexact HR
    iexact Hi2
  imod (close_idle P K c 3) $$ [Hi3] with Hi3
  · isplitr; · iexact HR
    iexact Hi3
  iapply (wp_load 𝒱₀ (c : Thread nD τ) none Set.univ (m := idxM) (Finset.subset_univ _)) $$ Hidx; iintro Hidx
  rw [read_idx]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := partM) (Finset.subset_univ _)) $$ Hp; iintro Hp
  iapply (wp_store 𝒱₀ (c : Thread nD τ) none Set.univ (m := partM) (r := Rect.unit (s := S512x512) ![0, 0] S512x512.size inb_S512x512_S512x512_0_0)
    (Mk := Finset.univ) (Finset.subset_univ _)) $$ Hp; iintro Hp
  rw [write_part]
  ihave Hp := (Entails.of_eq (congrArg (fun f : Vec F S512x512 .bf16 => (partLoc c ↦{fullShare} (f : Buf (Elt F) (partLoc c)) : sProp 𝕄)) hP.symm)) $$ [Hp]
  · iexact Hp
  icases (Entails.of_eq (part_peers P c)) $$ Hp with ⟨Hown, Hparts⟩
  ihave Hsc := (scatterPre_join P c) $$ [Hparts Hslots Ht0 Ht1]
  · isplitl [Hparts]; · iexact Hparts
    isplitl [Hslots]; · iexact Hslots
    isplitl [Ht0] <;> iassumption
  iapply (run_scatter P K c _ Q) $$ [HO Hsc]
  · isplitl [HO]
    · unfold carry
      isplitr; · iexact HR
      isplitr; · iexact Hlev
      iexists _; iexact HO
    iexact Hsc
  iintro ⟨HC, Hc0⟩
  ihave Hw0 := (waitPre_join (F := F) c 0) $$ [Hc0 Hp0]
  · isplitl [Hc0] <;> iassumption
  ihave Hw1 := (waitPre_join (F := F) c 1) $$ [Hc1 Hp1]
  · isplitl [Hc1] <;> iassumption
  ihave Hw3 := (waitPre_join (F := F) c 3) $$ [Hc3 Hp3]
  · isplitl [Hc3] <;> iassumption
  iapply (run_middle P K c s a o Q) $$ [HC Hw0 Hw1 Hw3 Hp2 Hthere Ht2 Ht3 Hown Hslot Hrows Hout]
  · unfold middlePre
    isplitl [HC]; · iexact HC
    isplitl [Hw0 Hw1 Hw3 Hp2]
    · isplitl [Hw0]; · iexact Hw0
      isplitl [Hw1]; · iexact Hw1
      isplitl [Hw3] <;> iassumption
    isplitl [Hthere Ht2 Ht3]
    · isplitl [Hthere]; · iexact Hthere
      isplitl [Ht2] <;> iassumption
    isplitl [Hown]; · iexact Hown
    isplitl [Hslot]; · iexact Hslot
    isplitl [Hrows] <;> iassumption
  unfold endPost carry
  iintro ⟨Hz1, ⟨-, -, HO⟩, ⟨Hz0, Hz2, Hz3⟩, Hpart, Hslab, Hacc, Hout⟩
  iapply Hk
  isplitl [HzB Hz0 Hz1 Hz2 Hz3 Hi0 Hi1 Hi2 Hi3]
  · unfold allZero
    rw [closed_eq, closed_eq, closed_eq, closed_eq]
    isplitl [HzB]; · iexact HzB
    isplitl [Hi0 Hz0]; · isplitl [Hi0] <;> iassumption
    isplitl [Hi1 Hz1]; · isplitl [Hi1] <;> iassumption
    isplitl [Hi2 Hz2]; · isplitl [Hi2] <;> iassumption
    isplitl [Hi3] <;> iassumption
  isplitl [Hpart Hslab Hacc]
  · isplitl [Hpart]; · iexact Hpart
    isplitl [Hslab] <;> iassumption
  isplitl [HO]; · iexact HO
  isplitl [Hx]; · iexact Hx
  isplitl [Hidx]; · iexact Hidx
  isplitl [Hw] <;> iassumption

end Cert.KernelIdeal.Moe
-- ==== Proof.Deal.lean ====
/- What the launch deals the devices: every device's cells opened for all the devices at once, and the tokens of a
   cell's duties handed to the devices that pay them. -/
module

public import proofs.«01_k».proof.Proof.Body
public import Idealize.ShloMosaic.Lib.Pipeline.Launch
public import Idealize.ShloMosaic.Lib.Pipeline.Kit

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The semaphores the kernel names -/

/-- The four arrays' semaphores: the kernel's own. -/
abbrev osem (ak : Fin 4 × Fin 32) : SemLoc sig := .dma (dsem ak.1 ak.2)

/-- Different places of the arrays are different semaphores. -/
theorem dsem_inj {a a' : Fin 4} {k k' : Fin 32} (h : dsem a k = dsem a' k') : a = a' ∧ k = k' :=
  ⟨Fin.ext (by rw [← arrOf_dsem a k, h, arrOf_dsem]), by rw [← posIn_dsem a k, h, posIn_dsem]⟩

theorem osem_inj : Function.Injective osem := fun ⟨a, k⟩ ⟨a', k'⟩ h =>
  have h' := dsem_inj (a := a) (a' := a') (k := k) (k' := k') (SemLoc.dma.inj h)
  Prod.ext h'.1 h'.2

/-- A barrier is no copy semaphore. -/
theorem bar_ne_dma {q : DmaSem sig} (h : (SemLoc.reg barS : SemLoc sig) = .dma q) : False := by cases h

/-- They are the kernel's own scoped semaphores, none of them a staging one. -/
theorem ownSemFacts : Pipeline.OwnSemFacts cfg0.spec osem where
  isScoped := fun ⟨a, k⟩ => by
    have h : ∀ (a : Fin 4) (k : Fin 32), (osem (a, k)).isScoped .tc = true := by decide +kernel
    exact h a k
  inj := osem_inj
  disj := fun ⟨a, k⟩ w s h => by
    have hq : ∀ (w : Fin cfg0.W) (s : Fin (cfg0.spec w).nbuf), ((cfg0.spec w).sem s).val < 4 := by decide
    have h1 : (dsem a k).val = ((cfg0.spec w).sem s).val := congrArg Fin.val (SemLoc.dma.inj h)
    have h2 : (dsem a k).val = 4 + (32 * a.val + k.val) := rfl
    have h3 := hq w s
    omega

/-- The cells are all different. -/
theorem kcell_inj : Function.Injective (kcell : Dev nD × Own → GSem nD τ sig) := by
  rintro ⟨c, o⟩ ⟨c', o'⟩ h
  rcases o with ⟨⟩ | ⟨a, k⟩ <;> rcases o' with ⟨⟩ | ⟨a', k'⟩
  · have h1 : c = c' := congrArg (fun g : GSem nD τ sig => g.1.1) h
    rw [h1]
  · exact (bar_ne_dma (congrArg Prod.snd h)).elim
  · exact (bar_ne_dma (congrArg Prod.snd h).symm).elim
  · have h1 : c = c' := congrArg (fun g : GSem nD τ sig => g.1.1) h
    obtain ⟨h2, h3⟩ := dsem_inj (a := a) (a' := a') (k := k) (k' := k') (SemLoc.dma.inj (congrArg Prod.snd h : (SemLoc.dma (dsem a k) : SemLoc sig) = SemLoc.dma (dsem a' k')))
    rw [h1, h2, h3]

def cells : Finset (GSem nD τ sig) := Finset.univ.map ⟨kcell, kcell_inj⟩

/-- The duties of a device's own cells: a barrier's one for every peer, and one for every used place of every array. -/
abbrev Duty : Type := Fin 31 ⊕ (Fin 4 × Fin 31)

/-- A duty's cell, round and name. -/
abbrev duty (cd : Dev nD × Duty) : GSem nD τ sig × ℕ × Fin 31 := match cd.2 with
  | .inl i => (barCell cd.1, 0, i)
  | .inr ai => (dmaCell ai.1 cd.1 ai.2.succ, 0, 0)

theorem duty_inj : Function.Injective (duty : Dev nD × Duty → GSem nD τ sig × ℕ × Fin 31) := by
  rintro ⟨c, o⟩ ⟨c', o'⟩ h
  rcases o with i | ⟨a, k⟩ <;> rcases o' with i' | ⟨a', k'⟩
  · have h1 : c = c' := congrArg (fun g : GSem nD τ sig × ℕ × Fin 31 => g.1.1.1) h
    have h2 : i = i' := congrArg (fun g : GSem nD τ sig × ℕ × Fin 31 => g.2.2) h
    rw [h1, h2]
  · exact (bar_ne_dma (congrArg (fun g : GSem nD τ sig × ℕ × Fin 31 => g.1.2) h)).elim
  · exact (bar_ne_dma (congrArg (fun g : GSem nD τ sig × ℕ × Fin 31 => g.1.2) h).symm).elim
  · have h1 : c = c' := congrArg (fun g : GSem nD τ sig × ℕ × Fin 31 => g.1.1.1) h
    obtain ⟨h2, h3⟩ := dsem_inj (a := a) (a' := a') (k := k.succ) (k' := k'.succ) (SemLoc.dma.inj
      (congrArg (fun g : GSem nD τ sig × ℕ × Fin 31 => g.1.2) h : (SemLoc.dma (dsem a k.succ) : SemLoc sig) = SemLoc.dma (dsem a' k'.succ)))
    rw [h1, h2, Fin.succ_inj.mp h3]

def duties : Finset (GSem nD τ sig × ℕ × Fin 31) := Finset.univ.map ⟨duty, duty_inj⟩

/-! ## What is minted, device by device -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A resource for each of a device's cells: the barrier's and the four arrays'. -/
theorem bigSep_own (Φ : Own → sProp 𝕄) : bigSep Finset.univ Φ
    = iprop(Φ (.inl ()) ∗ bigSep Finset.univ fun ak : Fin 4 × Fin 32 => Φ (.inr ak)) :=
  (BI.bigSep_univ_sum Φ).trans (congrArg (fun X : sProp 𝕄 => iprop(X ∗ bigSep Finset.univ fun ak : Fin 4 × Fin 32 => Φ (.inr ak)))
    (bigSep_univ_eq_bigSepL [()] (by decide) (by decide) fun u : Unit => Φ (.inl u)))

/-- The tokens of device `c`'s own cells' duties. -/
def minted (c : Dev nD) : sProp 𝕄 :=
  iprop((bigSep Finset.univ fun i : Fin 31 => dutyTok ER (barCell c) 0 i)
    ∗ (bigSep Finset.univ fun i : Fin 31 => dutyTok ER (dmaCell 0 c i.succ) 0 0)
    ∗ (bigSep Finset.univ fun i : Fin 31 => dutyTok ER (dmaCell 1 c i.succ) 0 0)
    ∗ (bigSep Finset.univ fun i : Fin 31 => dutyTok ER (dmaCell 2 c i.succ) 0 0)
    ∗ (bigSep Finset.univ fun i : Fin 31 => dutyTok ER (dmaCell 3 c i.succ) 0 0))

theorem minted_eq (c : Dev nD) :
    (bigSep Finset.univ fun d : Duty => (dutyTok ER (duty (c, d)).1 (duty (c, d)).2.1 (duty (c, d)).2.2 : sProp 𝕄)) = minted c := by
  rw [BI.bigSep_univ_sum]
  unfold minted
  have h : (bigSep Finset.univ fun ai : Fin 4 × Fin 31 => (dutyTok ER (dmaCell ai.1 c ai.2.succ) 0 0 : sProp 𝕄)) = _ :=
    (BI.bigSep_univ_prod _).trans (bigSep_four _)
  exact congrArg (fun X : sProp 𝕄 => iprop((bigSep Finset.univ fun i : Fin 31 => dutyTok ER (barCell c) 0 i) ∗ X)) h

variable (P : Dev nD → Vec F S512x512 .bf16)

/-- What device `c` is dealt: its cells' states, its places in their protocols, its cells' tokens. -/
def dealt (c : Dev nD) : sProp 𝕄 :=
  iprop((bigSep Finset.univ fun k : Own => roundState ER (rd P) (kcell (c, k)) 0)
    ∗ (bigSep Finset.univ fun k : Own => iprop(atPos ER (kcell (c, k)) 0 ∅ 0 ∗ reached ER (kcell (c, k)) 0)) ∗ minted c)

theorem fund : BI.own (ER (initOf cells duties)) ⊢ (|==> bigSep Finset.univ (dealt P) : sProp 𝕄) := by
  have hX (Φ : GSem nD τ sig → sProp 𝕄) : bigSep cells Φ = bigSep Finset.univ fun c : Dev nD => bigSep Finset.univ fun k : Own => Φ (kcell (c, k)) := by
    unfold cells; rw [bigSep_map, BI.bigSep_univ_prod]; rfl
  have hT : bigSep duties (fun x => (dutyTok ER x.1 x.2.1 x.2.2 : sProp 𝕄)) = bigSep Finset.univ fun c : Dev nD => minted c := by
    unfold duties; rw [bigSep_map, BI.bigSep_univ_prod]
    exact bigSep_congr fun c _ => minted_eq c
  iintro HX
  imod (Rounds.fund ER (rd P) cells duties) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The cells opened -/

/-- The barrier semaphore is the one semaphore that is not the launch's own. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem ownSems0_eq (c : Dev nD) : (Pipeline.ownSems0 (Ix := Unit) (Name := ℕ) (U := UU) (Lvl := ℕ) (Val := Elt F) (τ := τ) osem c : sProp 𝕄)
    = iprop(closed c 0 ∗ closed c 1 ∗ closed c 2 ∗ closed c 3) := by
  unfold Pipeline.ownSems0
  exact (BI.bigSep_univ_prod _).trans (bigSep_four _)

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Own => semVal (kcell (c, k)) 0 : sProp 𝕄) := by
  rw [unscopedSems0_eq, bigSep_own]
  unfold Pipeline.ownSems0
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ dealt P c)
      ⊢ |={Set.univ}=> iprop((bigSep Finset.univ fun k : Own => iprop(∃ κ : ℕ, cellInv ER (rd P) κ (kcell (c, k))))
          ∗ (bigSep Finset.univ fun k : Own => iprop(atPos ER (kcell (c, k)) 0 ∅ 0 ∗ reached ER (kcell (c, k)) 0)) ∗ minted c) := by
  unfold dealt
  iintro ⟨Hos, Hus, Hst, Hat, Htok⟩
  ihave Hv := (sems0 (F := F) c) $$ [Hos Hus]
  · isplitl [Hos] <;> iassumption
  imod (show iprop((bigSep Finset.univ fun k : Own => semVal (kcell (c, k)) 0) ∗ bigSep Finset.univ fun k : Own => roundState ER (rd P) (kcell (c, k)) 0)
      ⊢ (|={Set.univ}=> bigSep Finset.univ fun k : Own => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens handed round -/

theorem rev_peer (c : Fin 32) (i : Fin 31) : peer (peer c i.rev) i = c := by
  have := peer_rev c i.rev; rwa [Fin.rev_rev] at this

/-- A device and a peer of it, seen from the peer. -/
def facing : (Dev nD × Fin 31) ≃ (Dev nD × Fin 31) where
  toFun x := (peer x.1 x.2, x.2.rev)
  invFun x := (peer x.1 x.2, x.2.rev)
  left_inv := fun ⟨c, i⟩ => Prod.ext (peer_rev c i) (Fin.rev_rev i)
  right_inv := fun ⟨c, i⟩ => Prod.ext (peer_rev c i) (Fin.rev_rev i)

/-- A device's peer in place of the device. -/
def ahead : (Dev nD × Fin 31) ≃ (Dev nD × Fin 31) where
  toFun x := (peer x.1 x.2, x.2)
  invFun x := (peer x.1 x.2.rev, x.2)
  left_inv := fun ⟨c, i⟩ => Prod.ext (peer_rev c i) rfl
  right_inv := fun ⟨c, i⟩ => Prod.ext (rev_peer c i) rfl

/-- A resource for every device and peer, counted another way. -/
theorem bigSep_around (e : (Dev nD × Fin 31) ≃ (Dev nD × Fin 31)) (Φ : Dev nD → Fin 31 → sProp 𝕄) :
    (bigSep Finset.univ fun c : Dev nD => bigSep Finset.univ fun i : Fin 31 => Φ c i)
      = bigSep Finset.univ fun c : Dev nD => bigSep Finset.univ fun i : Fin 31 => Φ (e (c, i)).1 (e (c, i)).2 := by
  have h1 := BI.bigSep_univ_prod (fun x : Dev nD × Fin 31 => Φ x.1 x.2)
  have h2 := BI.bigSep_univ_equiv e (fun x : Dev nD × Fin 31 => Φ x.1 x.2)
  have h3 := BI.bigSep_univ_prod (fun x : Dev nD × Fin 31 => Φ (e x).1 (e x).2)
  exact h1.symm.trans (h2.trans h3)

theorem toks_around : (bigSep Finset.univ fun c : Dev nD => (minted c : sProp 𝕄)) ⊢ bigSep Finset.univ fun c : Dev nD => tokens c := by
  have h1 := bigSep_around (F := F) facing fun c i => dutyTok ER (barCell c) 0 i
  have h2 (a : Fin 4) := bigSep_around (F := F) ahead fun c i => dutyTok ER (dmaCell a c i.succ) 0 0
  unfold minted tokens
  simp only [bigSep_sep']
  rw [h1, h2 1, h2 3]
  exact Entails.refl _

/-! ## Everything together -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What device `c` starts with, at some names. -/
def started (c : Dev nD) : sProp 𝕄 := iprop(∃ K, ghost P K c)

theorem positions_all (c : Dev nD) : (bigSep Finset.univ fun k : Own => (atPos ER (kcell (c, k)) 0 ∅ 0 : sProp 𝕄))
    = iprop(atPos ER (barCell c) 0 ∅ 0 ∗ positions c 0 ∗ positions c 1 ∗ positions c 2 ∗ positions c 3) := by
  rw [bigSep_own]
  exact congrArg (fun X : sProp 𝕄 => iprop(atPos ER (barCell c) 0 ∅ 0 ∗ X)) ((BI.bigSep_univ_prod _).trans (bigSep_four _))

theorem ghost_intro (K : Dev nD × Own → ℕ) (c : Dev nD) :
    iprop(records P K ∗ ((bigSep Finset.univ fun k : Own => (atPos ER (kcell (c, k)) 0 ∅ 0 : sProp 𝕄)) ∗ tokens c)) ⊢ started P c := by
  rw [positions_all]
  unfold started ghost
  iintro H
  iexists K
  iexact H

theorem regroup :
    (bigSep Finset.univ fun c : Dev nD => iprop((bigSep Finset.univ fun k : Own => iprop(∃ κ : ℕ, cellInv ER (rd P) κ (kcell (c, k))))
          ∗ (bigSep Finset.univ fun k : Own => iprop(atPos ER (kcell (c, k)) 0 ∅ 0 ∗ reached ER (kcell (c, k)) 0)) ∗ minted c) : sProp 𝕄)
      ⊢ bigSep Finset.univ (started P) := by
  rw [bigSep_sep', bigSep_sep', ← BI.bigSep_univ_prod (fun ck : Dev nD × Own => iprop(∃ κ : ℕ, cellInv ER (rd P) κ (kcell ck))),
    bigSep_congr (s := Finset.univ) (fun (c : Dev nD) _ => bigSep_sep' Finset.univ (fun k : Own => (atPos ER (kcell (c, k)) 0 ∅ 0 : sProp 𝕄)) (fun k => reached ER (kcell (c, k)) 0)),
    bigSep_sep', ← BI.bigSep_univ_prod (fun ck : Dev nD × Own => (reached ER (kcell ck) 0 : sProp 𝕄))]
  iintro ⟨HI, ⟨Hat, #HR⟩, Htok⟩
  ihave HK := (BI.bigSep_exists_pi Finset.univ (fun (ck : Dev nD × Own) (κ : ℕ) => (cellInv ER (rd P) κ (kcell ck) : sProp 𝕄))) $$ HI
  icases HK with ⟨%K, #HI⟩
  ihave Htk := (toks_around (F := F)) $$ Htok
  iapply (bigSep_with_persistent (R := records P K) fun c _ => ghost_intro P K c)
  isplitr
  · unfold records; isplitl; · iexact HI
    iexact HR
  · iapply (Entails.of_eq (bigSep_sep' Finset.univ (fun c : Dev nD => bigSep Finset.univ fun k : Own => (atPos ER (kcell (c, k)) 0 ∅ 0 : sProp 𝕄)) tokens).symm)
    isplitl [Hat]; · iexact Hat
    iexact Htk

/-- Every device's semaphores at zero, with what it is dealt, start the protocol everywhere. -/
theorem glob : (bigSep Finset.univ fun c => iprop(Pipeline.ownSems0 (Ix := Unit) (Name := ℕ) (U := UU) (Lvl := ℕ) (Val := Elt F) (τ := τ) osem c ∗ unscopedSems0 c ∗ dealt P c) : sProp 𝕄)
    ⊢ |={Set.univ}=> bigSep Finset.univ (started P) :=
  ((bigSep_mono fun c _ => core_alloc P c).trans (bigSep_fupd _ _)).trans (BI.fupd_mono (regroup P))

/-! ## The credits -/

/-- The devices' dues to their peers' cells of one array are each device's credits on its own. -/
theorem copies_credit (a : Fin 4) (c : Dev nD) : ∀ l : List (Fin 31),
    (Pipeline.launchCred (fun d => due (copyDue a d) l) c : sProp 𝕄) ⊢ each (copyCred a c) l
  | [] => Entails.of_eq (Pipeline.launchCred_zero c)
  | i :: l => by
    show (Pipeline.launchCred (fun d => due (copyDue a d) l + copyDue a d i) c : sProp 𝕄) ⊢ iprop(copyCred a c i ∗ each (copyCred a c) l)
    rw [Pipeline.launchCred_add]
    have h1 := copies_credit a c l
    have h2 : (Pipeline.launchCred (fun d => copyDue a d i) c : sProp 𝕄) ⊢ copyCred a c i :=
      Pipeline.launchCred_tallyAt (.dma (dsem a i.succ)) (fun d => peer d i) (fun d => peer d i.rev) (fun d => rev_peer d i) (fun d => peer_rev d i) () N c
    iintro ⟨Hl, Hi⟩
    isplitl [Hi]
    · iapply h2 $$ Hi
    · iapply h1 $$ Hl

/-- The devices' dues to their peers' barriers are as many units on each device's own. -/
theorem signals_credit (c : Dev nD) : ∀ l : List (Fin 31),
    (Pipeline.launchCred (fun d => due (barDue d) l) c : sProp 𝕄) ⊢ cred (tallyAt (barCell c) () l.length)
  | [] => (Entails.of_eq (Pipeline.launchCred_zero c)).trans (Entails.of_eq (by
      rw [show (tallyAt (barCell c) () ([] : List (Fin 31)).length : CellTallies nD τ sig Unit) = 0 from tallyAt_zero _ _, cred_zero]))
  | i :: l => by
    show (Pipeline.launchCred (fun d => due (barDue d) l + barDue d i) c : sProp 𝕄) ⊢ cred (tallyAt (barCell c) () (l.length + 1))
    rw [Pipeline.launchCred_add, ← tallyAt_add]
    have h1 := signals_credit c l
    have h2 : (Pipeline.launchCred (fun d => barDue d i) c : sProp 𝕄) ⊢ cred (tallyAt (barCell c) () 1) :=
      Pipeline.launchCred_tallyAt (.reg barS) (fun d => peer d i) (fun d => peer d i.rev) (fun d => rev_peer d i) (fun d => peer_rev d i) () 1 c
    have h3 : iprop(cred (tallyAt (barCell c) () l.length) ∗ cred (tallyAt (barCell c) () 1))
        ⊢ (cred (tallyAt (barCell c) () l.length + tallyAt (barCell c) () 1) : sProp 𝕄) := (cred_add _ _).2
    exact (BI.sep_mono h1 h2).trans h3

theorem creds (c : Dev nD) : (Pipeline.launchCred O₀ c : sProp 𝕄) ⊢ credits c := by
  have h1 := copies_credit (F := F) 1 c peers
  have h3 := copies_credit (F := F) 3 c peers
  have hb := signals_credit (F := F) c peers
  rw [each_peers] at h1 h3
  rw [show peers.length = 31 by decide] at hb
  show (Pipeline.launchCred (fun d => (due (copyDue 3 d) peers + due (copyDue 1 d) peers) + due (barDue d) peers) c : sProp 𝕄) ⊢ credits c
  rw [Pipeline.launchCred_add (fun d => due (copyDue 3 d) peers + due (copyDue 1 d) peers), Pipeline.launchCred_add]
  unfold credits
  iintro ⟨⟨H3, H1⟩, HB⟩
  isplitl [HB]; · iapply hb $$ HB
  isplitl [H1]; · iapply h1 $$ H1
  iapply h3 $$ H3

end Cert.KernelIdeal.Moe

end
-- ==== Proof.Launch.lean ====
/- The whole run: every device's body between the staging of its blocks and the write-back of its result, from any
   memory, for any float values. -/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs
public import Idealize.ShloMosaic.Lib.Tactic

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The memory the run starts from. -/
abbrev s₀ : MemSt nD τ sig (Elt F) := ⟨m, fun _ => 0, ρ⟩

/-- The blocks staged on device `c`: the tokens, -/
def xstg (c : Dev nD) : Vec F S512x256 .bf16 := (win0_0.blk (0 : Fin 1)).view.read (Elt F) (m ((c : Thread nD τ).loc main_arg0))
/-- their experts, -/
def idxstg (c : Dev nD) : Vec F S512x1 .i32 := (win0_1.blk (0 : Fin 1)).view.read (Elt F) (m ((c : Thread nD τ).loc main_arg2))
/-- and the weights of the device's two experts. -/
def wstg (c : Dev nD) : Vec F S2x256x512 .bf16 := (win0_2.blk (0 : Fin 1)).view.read (Elt F) (m ((c : Thread nD τ).loc main_arg3))

/-- The partial result of device `c`. -/
def partials (c : Dev nD) : Vec F S512x512 .bf16 := partialOf c (idxstg m c) (xstg m c) (expert0 (wstg m c)) (expert1 (wstg m c))
/-- The result, the same on every device. -/
def result : Vec F S512x512 .f32 := k0_pay8 (finished (partials m))

/-! ## The pipeline's proof data -/

/-- What a device's body starts from, but for its buffers; -/
def start (c : Dev nD) : sProp 𝕄 := iprop(started (partials m) c ∗ credits c ∗ levAts L lv)
/-- with its buffers; -/
def Φ₀ (c : Dev nD) : sProp 𝕄 := iprop(start m c ∗ ∃ p s a, scratch c p s a)
/-- and what it ends with. -/
def Φ₁ (c : Dev nD) : sProp 𝕄 :=
  iprop(allZero c ∗ scratch c (partials m c) (arrived (partials m) c) (finished (partials m)))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => idxstg m c
    | ⟨2, _⟩ => wstg m c
    | ⟨3, _⟩ => result m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## The body -/

/-- A whole buffer owned at contents is its points-to. -/
theorem owns_whole_eq (c : Dev nD) (b : Ref sig .tc) (X : b.ty.Contents (Elt F)) :
    (owns c (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

theorem before_x (c : Dev nD) (d) : (dats m 0 c).before (0 : Fin 4) t0_0 d = xstg m c := by
  unfold Dat.before; rw [if_pos (fetch0_0 t0_0)]; rfl
theorem before_idx (c : Dev nD) (d) : (dats m 0 c).before (1 : Fin 4) t0_0 d = idxstg m c := by
  unfold Dat.before; rw [if_pos (fetch0_1 t0_0)]; rfl
theorem before_w (c : Dev nD) (d) : (dats m 0 c).before (2 : Fin 4) t0_0 d = wstg m c := by
  unfold Dat.before; rw [if_pos (fetch0_2 t0_0)]; rfl

/-- A staging buffer at contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ
    ∗ stg c cc0_stg0_0 (xstg m c) ∗ stg c cc0_stg1_0 (idxstg m c) ∗ stg c cc0_stg2_0 (wstg m c) ∗ stg c cc0_stg3_0 (result m))

theorem body_run (c : Dev nD) :
    bodyPre m c ⊢ run c (body xM idxM wM outM partM (Memref.isWhole_whole _) slabM (Memref.isWhole_whole _) accM (Memref.isWhole_whole _)
      cc0_scratch3 cc0_scratch4 cc0_scratch5 cc0_scratch6) (fun _ => bodyPost m c) := by
  unfold bodyPre Φ₀ start started
  iintro ⟨⟨⟨⟨%K, Hg⟩, Hcr, Hlv⟩, ⟨%p, %s, %a, Hscr⟩⟩, Ho, ⟨%d0, %f0, %e0, Hx⟩, ⟨%d1, %f1, %e1, Hi⟩, ⟨%d2, %f2, %e2, Hw⟩, ⟨%d3, %f3, %e3, Hout⟩⟩
  rw [before_x] at e0; rw [before_idx] at e1; rw [before_w] at e2
  subst e0 e1 e2
  unfold Dat.owesAt Pipeline.owesWithin
  icases Ho with ⟨%W, %hW, HO⟩
  iapply (run_body (partials m) K c (xstg m c) (idxstg m c) (wstg m c) f3 rfl p s a W fun _ => bodyPost m c) $$ [Hg Hcr Hlv HO Hscr Hx Hi Hw Hout]
  · isplitl [Hg]; · iexact Hg
    isplitl [Hcr]; · iexact Hcr
    isplitl [Hlv]; · iexact Hlv
    isplitl [HO]; · iexact HO
    isplitl [Hscr]; · iexact Hscr
    unfold staged
    isplitl [Hx]; · iexact Hx
    isplitl [Hi]; · iexact Hi
    isplitl [Hw] <;> iassumption
  unfold bodyPost Φ₁ staged Dat.owesAt Pipeline.owesWithin
  iintro ⟨Hz, Hscr, ⟨%W', HO⟩, Hx, Hi, Hw, Hout⟩
  isplitl [Hz Hscr]
  · isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

set_option maxRecDepth 100000 in
/-- The body as the pipeline runs it. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole_eq]
  show bodyPre m c ⊢ wp frame (wpE (defs₀ (F := F)) 𝒱₀ c none) Set.univ
    (cc0_body xM (Memref.isWhole_whole _) idxM (Memref.isWhole_whole _) wM (Memref.isWhole_whole _) outM (Memref.isWhole_whole _)
      partM (Memref.isWhole_whole _) slabM (Memref.isWhole_whole _) accM (Memref.isWhole_whole _) cc0_scratch3 cc0_scratch4 cc0_scratch5 cc0_scratch6)
    (fun _ => bodyPost m c)
  rw [printed_eq]
  exact body_run m c

/-! ## The launch's side conditions -/

/-- The array no window stages: the router's weights, which nothing reads. -/
abbrev kept (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ started (partials m) c)
      ⊢ |={Set.univ}=> iprop(start m c ∗ kept m c) := by
  rw [Pipeline.unscopedRestP_none, unscopedRest0_eq]
  iintro ⟨Hk, Hlev, Hcr, -, HG⟩
  ihave Hc := (creds (F := F) c) $$ Hcr
  imodintro
  unfold start
  isplitr [Hk]
  · isplitl [HG]; · iexact HG
    isplitl [Hc] <;> iassumption
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%p, Hp⟩, ⟨%s, Hsl⟩, ⟨%a, Ha⟩⟩
  isplitl [Hs]; · iexact Hs
  iexists p; iexists s; iexists a
  isplitl [Hp]; · iexact Hp
  isplitl [Hsl] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ allZero scratch
  iintro ⟨⟨HB, HD⟩, Hp, Hs, Ha⟩
  isplitl [HB]; · iexact HB
  isplitl [HD]; · iexact HD
  isplitl [Hp]; · iexists _; iexact Hp
  isplitl [Hs]; · iexists _; iexact Hs
  iexists _; iexact Ha

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def u₀ : UU :=
  (initOf (Pipeline.cells cfgs cellOf_inj) (Pipeline.launchToks cfgs cellOf_inj), initOf cells duties)

/-- How a run ends: every window's array as the pipeline leaves it, the fourth argument as it was, every counter at zero. -/
def Ended (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)) ∧ r.2.sem = fun _ => 0

set_option maxRecDepth 100000 in
/-- From any memory, with every counter at zero, for any float values: every weakly fair execution of the program
    on all the devices ends, and ends so. -/
theorem run_launch : θ_run defs (onTc (τ := τ) (main (F := F))) (s₀ m ρ) (Ended m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (partials m)) (G' := started (partials m)) (u₀ := u₀)
    (hu₀ := by
      unfold u₀
      iintro Hu
      ihave H := (ownU_pair _ _) $$ Hu
      icases H with ⟨HP, HX⟩
      imod (fund (partials m)) $$ HX with HG
      imodintro
      isplitl [HP] <;> iassumption)
    (hglob := glob (partials m))
    (hA := fun _ _ => rfl) (hpf := fun _ k => k.elim0)
    (X := start m) (Y := fun c => unscopedSems0 c) (Z := kept m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hk, HSI⟩
      icombine HSI Hk gives %h
      imod (Pipeline.unscopedSems0_read (X := unscopedSems0 c) (c := c) fupd_intro s') $$ [Hu HSI] with ⟨%hs, HSI⟩
      · isplitl [Hu] <;> iassumption
      imodintro
      isplitr; · (ipureintro; exact ⟨hs, Buf.eq_of_forall_mem_univ h⟩)
      iexact HSI)
    (hQ := fun _ h hs => ⟨fun c => ⟨(h c).1, (h c).2.2.2⟩, sem_eq_zero hs fun c => (h c).2.2.1⟩)

end Cert.KernelIdeal.Moe

end
-- ==== Proof.Final.lean ====
/- The run read at the program's own arrays. -/
module

public import proofs.«01_k».proof.Proof.Launch

@[expose] public section

noncomputable section

namespace Cert.KernelIdeal.Moe

open Idealize.ShloMosaic Idealize.ShloMosaic.TcCoe Idealize.SL.Sem
open Cert.KernelIdeal.Gen

variable {F : FTy → Type} [FloatOps F] (m : (ℓ : Loc nD τ sig) → Buf (Elt F) ℓ) (ρ : Dev nD → PrngReg)

/-- The staged tokens are the first argument, -/
theorem xstg_eq (c : Dev nD) : xstg m c = m ((c : Thread nD τ).loc main_arg0) :=
  Memref.read_access_unit_zero (Elt F) main_arg0 (funext fun a => by fin_cases a <;> decide) (fun a => by fin_cases a <;> decide) _
/-- their experts the third, -/
theorem idxstg_eq (c : Dev nD) : idxstg m c = m ((c : Thread nD τ).loc main_arg2) :=
  Memref.read_access_unit_zero (Elt F) main_arg2 (funext fun a => by fin_cases a <;> decide) (fun a => by fin_cases a <;> decide) _
/-- the weights the fourth. -/
theorem wstg_eq (c : Dev nD) : wstg m c = m ((c : Thread nD τ).loc main_arg3) :=
  Memref.read_access_unit_zero (Elt F) main_arg3 (funext fun a => by fin_cases a <;> decide) (fun a => by fin_cases a <;> decide) _

/-- The array of the result ends holding the result. -/
theorem arrAt_out (c : Dev nD) : (dats m 0 c).arrAt (3 : Fin 4) cfg0.N = result m := by
  have hr := fun f => Memref.read_access_unit_zero (Elt F) main_v1 (off := fun a => (win0_3.index (0 : Fin 1)) a * main_v1.ty.shape.size a)
    (funext fun a => by fin_cases a <;> decide) (fun a => by fin_cases a <;> decide) f
  have h : (win0_3.blk (0 : Fin 1)).view.read (Elt F) ((dats m 0 c).arrAt (3 : Fin 4) cfg0.N) = result m := by
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (hr _).symm.trans h

/-- Every run ends with the result on every device, the arguments as they were, and every counter at zero. -/
theorem run_main : θ_run defs (onTc (τ := τ) (main (F := F))) ⟨m, fun _ => 0, ρ⟩ (fun r => (∀ c : Dev nD,
      r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).1 (3 : Fin 4)).trans (arrAt_out m c),
        ((h.1 c).1 (0 : Fin 4)).trans ((dats m 0 c).arrAt_in (0 : Fin 4) rfl _),
        (h.1 c).2,
        ((h.1 c).1 (1 : Fin 4)).trans ((dats m 0 c).arrAt_in (1 : Fin 4) rfl _),
        ((h.1 c).1 (2 : Fin 4)).trans ((dats m 0 c).arrAt_in (2 : Fin 4) rfl _)⟩, h.2⟩)
    (run_launch m ρ)

end Cert.KernelIdeal.Moe

end
-- ==== Proof.Value.lean ====
/- The kernel's result as extended reals, element by element: every device's partial result, the sum
   over the devices, and the reference's product with the weights it picks. They are the same sums. -/
module

public import proofs.«01_k».proof.Proof.Final
public import proofs.«01_k».proof.Proof.Gen.ReferenceIdeal.Run
public import Idealize.ShloMosaic.Lib.Pointwise
public import Idealize.ShloMosaic.Lib.IdealHost
public import Idealize.ShloMosaic.Lib.Layout

@[expose] public section

noncomputable section

namespace Cert.KernelIdeal.Moe

open Idealize.ShloMosaic Idealize.ShloMosaic.TcCoe Idealize.SL.Sem
open Cert.KernelIdeal.Gen

/-! ## The words of the experts -/

/-- The first expert of a device, by its number, -/
theorem word0 : ∀ c : Fin 32, Scalar.addi (Scalar.muli (ownWord c) 2#32) 0#32 = BitVec.ofNat 32 (2 * c.val) := by decide +kernel
/-- and the second. -/
theorem word1 : ∀ c : Fin 32, Scalar.addi (Scalar.muli (ownWord c) 2#32) 1#32 = BitVec.ofNat 32 (2 * c.val + 1) := by decide +kernel

/-- Choosing by an equality of words. -/
theorem select_eq (a b : BitVec 32) (x y : EReal) : Scalar.select (IntOp.cmpi .eq a b) x y = if a = b then x else y := by
  by_cases h : a = b
  · rw [if_pos h]; subst h; simp [Scalar.select, IntOp.cmpi]
  · have hb : (a == b) = false := beq_eq_false_iff_ne.mpr h
    rw [if_neg h]; simp [Scalar.select, IntOp.cmpi, hb]

/-- A word is a number's exactly when it is that number. -/
theorem word_eq (a : BitVec 32) (n : Nat) (hn : n < 64) : a = BitVec.ofNat 32 n ↔ a.toNat = n := by
  constructor
  · intro h; rw [h, BitVec.toNat_ofNat]; omega
  · intro h; exact BitVec.eq_of_toNat_eq (by rw [BitVec.toNat_ofNat]; omega)

/-! ## The kernel's operations at an element -/

/-- The sum over the slab. -/
theorem sum_at (v : Vec Ideal S32x16x512 .bf16) (r : Fin 16) (j : Fin 512) :
    k0_pay7 v (ix2 r j) = ∑ k : Fin 32, v (ix3 k r j) := by
  pointwise [k0_pay7]

/-- A device's partial result. -/
theorem partial_at (c : Fin 32) (idx : Vec Ideal S512x1 .i32) (x : Vec Ideal S512x256 .bf16) (w0 w1 : Vec Ideal S1x256x512 .bf16) (i j : Fin 512) :
    partialOf (F := Ideal) c idx x w0 w1 (ix2 i j)
      = (∑ k : Fin 256, if idx (ix2 i 0) = BitVec.ofNat 32 (2 * c.val) then x (ix2 i k) * w0 (ix3 0 k j) else 0)
        + ∑ k : Fin 256, if idx (ix2 i 0) = BitVec.ofNat 32 (2 * c.val + 1) then x (ix2 i k) * w1 (ix3 0 k j) else 0 := by
  pointwise [partialOf, k0_pay5, k0_pay4, k0_pay3, k0_pay2, k0_pay1]
  simp only [word0, word1, select_eq]

/-- The result, of the partial results. -/
theorem finished_at (P : Dev nD → Vec Ideal S512x512 .bf16) (i j : Fin 512) :
    finished P (ix2 i j) = ∑ d : Fin 32, P d (ix2 i j) := by
  have hi : i.val < 512 := i.isLt
  let b : Fin 32 := ⟨i.val / 16, by omega⟩
  have h : finished P (ix2 i j) = ∑ k : Fin 32, P (b - k) (ix2 i j) := by
    refine (congrArg _ (?_ : _ = (ix2 (⟨i.val % 16, Nat.mod_lt _ (by decide)⟩ : Fin 16) j : S16x512.Idx))).trans
      ((sum_at (arrived P b) ⟨i.val % 16, Nat.mod_lt _ (by decide)⟩ j).trans (Finset.sum_congr rfl fun k _ => ?_))
    · funext a; match a with | ⟨0, _⟩ => rfl | ⟨1, _⟩ => rfl
    · refine congrArg (P (b - k)) (funext fun a => ?_)
      match a with
      | ⟨0, _⟩ => exact Fin.ext (show 16 * (i.val / 16) + i.val % 16 = i.val by omega)
      | ⟨1, _⟩ => rfl
  rw [h]
  exact Equiv.sum_comp (Equiv.subLeft b) (fun d : Fin 32 => P d (ix2 i j))

theorem expert0_at (w : Vec Ideal S2x256x512 .bf16) (k : Fin 256) (j : Fin 512) : expert0 w (ix3 0 k j) = w (ix3 0 k j) := by
  refine congrArg w (funext fun a => Fin.ext ?_)
  match a with
  | ⟨0, _⟩ => rfl
  | ⟨1, _⟩ => show 0 + 1 * k.val = k.val; omega
  | ⟨2, _⟩ => show 0 + 1 * j.val = j.val; omega
theorem expert1_at (w : Vec Ideal S2x256x512 .bf16) (k : Fin 256) (j : Fin 512) : expert1 w (ix3 0 k j) = w (ix3 1 k j) := by
  refine congrArg w (funext fun a => Fin.ext ?_)
  match a with
  | ⟨0, _⟩ => rfl
  | ⟨1, _⟩ => show 0 + 1 * k.val = k.val; omega
  | ⟨2, _⟩ => show 0 + 1 * j.val = j.val; omega

/-- A device's experts are its block of all of them. -/
theorem block_at (W : (⟨3, ![64, 256, 512]⟩ : Shape).Idx → EReal) (c : Fin 32) (e : Fin 2) (k : Fin 256) (j : Fin 512) (n : Fin 64)
    (hn : n.val = 2 * c.val + e.val) :
    Layout.block ⟨3, ![2, 256, 512]⟩ ⟨3, ![64, 256, 512]⟩ 0 32 c W (by decide) (ix3 e k j) = W (ix3 n k j) := by
  rw [Layout.block_apply]
  refine congrArg W (funext fun a => Fin.ext ?_)
  rw [Layout.Tiles.idx_val]
  match a with
  | ⟨0, _⟩ => show c.val * 2 + e.val = n.val; omega
  | ⟨1, _⟩ => rfl
  | ⟨2, _⟩ => rfl

/-! ## The sums -/

/-- The product with the weights of the token's expert, or nothing when there is none. -/
def wanted (idx : BitVec 32) (x : Fin 256 → EReal) (W : Fin 64 → Fin 256 → EReal) : EReal :=
  if h : idx.toNat < 64 then ∑ k : Fin 256, x k * W ⟨idx.toNat, h⟩ k else 0

/-- The devices' partial results add up to it: at most one of the 64 terms is there. -/
theorem sum_devices (idx : BitVec 32) (x : Fin 256 → EReal) (W : Fin 64 → Fin 256 → EReal) (A B : Fin 32 → Fin 256 → EReal)
    (hA : ∀ (d : Fin 32) (k : Fin 256), A d k = W ⟨2 * d.val, by omega⟩ k) (hB : ∀ (d : Fin 32) (k : Fin 256), B d k = W ⟨2 * d.val + 1, by omega⟩ k) :
    (∑ d : Fin 32, ((∑ k : Fin 256, if idx = BitVec.ofNat 32 (2 * d.val) then x k * A d k else 0)
      + ∑ k : Fin 256, if idx = BitVec.ofNat 32 (2 * d.val + 1) then x k * B d k else 0)) = wanted idx x W := by
  have e0 : ∀ d : Fin 32, (idx = BitVec.ofNat 32 (2 * d.val)) ↔ idx.toNat = 2 * d.val := fun d => word_eq idx _ (by omega)
  have e1 : ∀ d : Fin 32, (idx = BitVec.ofNat 32 (2 * d.val + 1)) ↔ idx.toNat = 2 * d.val + 1 := fun d => word_eq idx _ (by omega)
  simp only [e0, e1, hA, hB]
  unfold wanted
  split
  · rename_i h
    rw [Finset.sum_eq_single (⟨idx.toNat / 2, by omega⟩ : Fin 32)]
    · rcases Nat.mod_two_eq_zero_or_one idx.toNat with hm | hm
      · have h0 : idx.toNat = 2 * (idx.toNat / 2) := by omega
        have h1 : ¬ idx.toNat = 2 * (idx.toNat / 2) + 1 := by omega
        simp only [if_neg h1, if_pos h0, Finset.sum_const_zero, add_zero]
        exact Finset.sum_congr rfl fun k _ => congrArg (fun n => x k * W n k) (Fin.ext h0.symm)
      · have h0 : ¬ idx.toNat = 2 * (idx.toNat / 2) := by omega
        have h1 : idx.toNat = 2 * (idx.toNat / 2) + 1 := by omega
        simp only [if_neg h0, if_pos h1, Finset.sum_const_zero, zero_add]
        exact Finset.sum_congr rfl fun k _ => congrArg (fun n => x k * W n k) (Fin.ext h1.symm)
    · intro d _ hd
      have hd' : ¬ d.val = idx.toNat / 2 := fun e => hd (Fin.ext e)
      have h0 : ¬ idx.toNat = 2 * d.val := by omega
      have h1 : ¬ idx.toNat = 2 * d.val + 1 := by omega
      simp only [if_neg h0, if_neg h1, Finset.sum_const_zero, add_zero]
    · intro h; exact absurd (Finset.mem_univ _) h
  · rename_i h
    refine Finset.sum_eq_zero fun d _ => ?_
    have hd : d.val < 32 := d.isLt
    have h0 : ¬ idx.toNat = 2 * d.val := by omega
    have h1 : ¬ idx.toNat = 2 * d.val + 1 := by omega
    simp only [if_neg h0, if_neg h1, Finset.sum_const_zero, add_zero]

/-! ## The kernel's result -/

/-- The result's element `(i, j)`, given the tokens, their experts and all the weights. -/
theorem result_at (m : (ℓ : Loc nD τ sig) → Buf (Elt Ideal) ℓ) (idx : Vec Ideal S512x1 .i32) (x : Vec Ideal S512x256 .bf16)
    (W : (⟨3, ![64, 256, 512]⟩ : Shape).Idx → EReal)
    (hx : ∀ c : Dev nD, m ((c.tc : Thread nD τ).loc main_arg0) = x) (hi : ∀ c : Dev nD, m ((c.tc : Thread nD τ).loc main_arg2) = idx)
    (hW : ∀ c : Dev nD, m ((c.tc : Thread nD τ).loc main_arg3) = Layout.block ⟨3, ![2, 256, 512]⟩ ⟨3, ![64, 256, 512]⟩ 0 32 c W (by decide))
    (i j : Fin 512) :
    result m (ix2 i j) = wanted (idx (ix2 i 0)) (fun k => x (ix2 i k)) (fun n k => W (ix3 n k j)) := by
  refine (finished_at (partials m) i j).trans (Eq.trans (Finset.sum_congr rfl fun d _ => ?_)
    (sum_devices (idx (ix2 i 0)) (fun k => x (ix2 i k)) (fun n k => W (ix3 n k j))
      (fun d k => expert0 (wstg m d) (ix3 0 k j)) (fun d k => expert1 (wstg m d) (ix3 0 k j)) (fun d k => ?_) fun d k => ?_))
  · show partialOf d (idxstg m d) (xstg m d) _ _ (ix2 i j) = _
    rw [partial_at, idxstg_eq, xstg_eq, hx, hi]
  · rw [expert0_at, wstg_eq, hW]; exact block_at W d 0 k j _ rfl
  · rw [expert1_at, wstg_eq, hW]; exact block_at W d 1 k j _ rfl

end Cert.KernelIdeal.Moe

/-! ## The reference's result -/

namespace Cert.ReferenceIdeal.Moe

open Idealize.ShloMosaic Cert.ReferenceIdeal Cert.ReferenceIdeal.Gen Cert.KernelIdeal.Moe

/-- Whether a word is the number of an expert, -/
def known (w : BitVec 32) : BitVec 1 := IntOp.andi (IntOp.cmpi .sge w 0#32) (IntOp.cmpi .sle w 63#32)

theorem known_eq (w : BitVec 32) : known w = if w.toNat < 64 then 1#1 else 0#1 := by
  have h0 : (0#32 : BitVec 32).toInt = 0 := by decide
  have h1 : (63#32 : BitVec 32).toInt = 63 := by decide
  have hw : w.toNat < 2 ^ 32 := w.isLt
  have ht := BitVec.toInt_eq_toNat_cond w
  unfold known IntOp.andi IntOp.cmpi
  simp only [BitVec.sle_eq_decide, h0, h1]
  split
  · rename_i h
    rw [if_pos (by omega)] at ht
    rw [decide_eq_true (by omega), decide_eq_true (by omega)]; rfl
  · rename_i h
    by_cases hs : 2 * w.toNat < 2 ^ 32
    · rw [if_pos hs] at ht
      rw [decide_eq_false (p := w.toInt ≤ 63) (by omega)]
      exact BitVec.and_zero
    · rw [if_neg hs] at ht
      rw [decide_eq_false (p := 0 ≤ w.toInt) (by omega)]
      exact BitVec.zero_and

/-- The tokens' experts as the reference lines them up. -/
abbrev lined (idx : IVec S512x1 32) : IVec S512x1 32 :=
  broadcastInDim S512x1 ![0] bcast_S512_S512x1_0 (shapeCast S512 idx shapeCasts_S512x1_S512)

theorem lined_at (idx : IVec S512x1 32) (i : Fin 512) : lined idx (ix2 i 0) = idx (ix2 i 0) := by
  pointwise [lined]

/-- The gathered weights: the expert's own, when the word is the number of one. -/
theorem gather_at (W : S64x256x512.Idx → EReal) (idx : IVec S512x1 32) (i : Fin 512) (k : Fin 256) (j : Fin 512)
    (h : (idx (ix2 i 0)).toNat < 64) :
    Host.gather gather_S64x256x512_S512x1_S512x256x512_12_0_n_n_0_1_1256512 W idx (ix3 i k j) = W (ix3 ⟨(idx (ix2 i 0)).toNat, h⟩ k j) := by
  set D := gather_S64x256x512_S512x1_S512x256x512_12_0_n_n_0_1_1256512 with hD
  have hb : ∀ a, D.batchCoord (ix3 i k j) a = 0 := fun a => GatherDims.batchCoord_eq_zero _ _ _ List.not_mem_nil
  refine congrArg W (funext fun a => Fin.ext ?_)
  show D.start (ix3 i k j) idx a + D.batchCoord (ix3 i k j) a + D.offCoord (ix3 i k j) a = _
  rw [hb, Nat.add_zero]
  have hz : ∀ a : Fin 3, a ≠ 0 → D.start (ix3 i k j) idx a = 0 := fun a ha => by
    unfold GatherDims.start
    exact dif_neg (fun hm : a ∈ D.startIndexMap => ha (List.mem_singleton.mp hm))
  match a with
  | ⟨0, _⟩ =>
    have ho : D.offCoord (ix3 i k j) (0 : Fin 3) = 0 :=
      GatherDims.offCoord_eq_zero _ _ _ (fun hm => ((GatherDims.mem_sKept _ _).mp hm).1 (List.mem_singleton.mpr rfl))
    have hs : D.start (ix3 i k j) idx (0 : Fin 3) = min (idx (ix2 i 0)).toInt.toNat 63 := by
      unfold GatherDims.start
      rw [dif_pos (show (0 : Fin 3) ∈ D.startIndexMap from List.mem_singleton.mpr rfl)]
      have hsi : D.siIdx (ix3 i k j) ⟨List.idxOf (0 : Fin 3) D.startIndexMap, List.idxOf_lt_length_iff.2 (List.mem_singleton.mpr rfl)⟩
          = (ix2 i 0 : S512x1.Idx) := by
        funext b
        refine Fin.ext ?_
        match b with
        | ⟨0, _⟩ => rfl
        | ⟨1, _⟩ => rfl
      rw [hsi]
      rfl
    show D.start (ix3 i k j) idx (0 : Fin 3) + D.offCoord (ix3 i k j) (0 : Fin 3) = (idx (ix2 i 0)).toNat
    have ht := BitVec.toInt_eq_toNat_cond (idx (ix2 i 0))
    rw [if_pos (by omega)] at ht
    rw [ho, hs]; omega
  | ⟨1, _⟩ =>
    refine (congrArg (· + _) (hz 1 (by decide))).trans ((Nat.zero_add _).trans ?_)
    rfl
  | ⟨2, _⟩ =>
    refine (congrArg (· + _) (hz 2 (by decide))).trans ((Nat.zero_add _).trans ?_)
    rfl

/-- The reference's result, of its three arguments that are read. -/
abbrev reference (x : FVec Ideal S512x256 .bf16) (idx : IVec S512x1 32) (W : FVec Ideal S64x256x512 .bf16) : FVec Ideal S512x512 .f32 :=
  Host.dotGeneral dot_S512x256_S512x256x512_S512x512_1_1_n_2_0_0 none x
    (select (broadcastInDim S512x256x512 ![0] bcast_S512_S512x256x512_0
        (Host.reduce IntOp.andi (andi (cmpi .sge (lined idx) (broadcastInDim S512x1 ![] bcast_S_S512x1 (constantI S_ 32 0#32)))
          (cmpi .sle (lined idx) (broadcastInDim S512x1 ![0, 1] bcast_S1x1_S512x1_0_1 (broadcastInDim S1x1 ![1] bcast_S1_S1x1_1 (constantI S1 32 63#32)))))
          (constantI S_ 1 1#1) reducesTo_S512x1_S512_d1 h_S_))
      (Host.gather gather_S64x256x512_S512x1_S512x256x512_12_0_n_n_0_1_1256512 W (lined idx))
      (broadcastInDim S512x256x512 ![] bcast_S_S512x256x512 (constant S_ .bf16 0x0000#16)))

theorem reference_at (x : FVec Ideal S512x256 .bf16) (idx : IVec S512x1 32) (W : FVec Ideal S64x256x512 .bf16) (i j : Fin 512) :
    reference x idx W (ix2 i j) = wanted (idx (ix2 i 0)) (fun k => x (ix2 i k)) (fun n k => W (ix3 n k j)) := by
  have hl := lined_at idx i
  unfold reference
  generalize lined idx = l at hl
  pointwise
  have hf : ∀ f : Fin 1 → BitVec 1, Finset.fold IntOp.andi (1#1) f Finset.univ = f 0 := fun f => by
    rw [Finset.univ_unique, Finset.fold_singleton]
    exact BitVec.and_allOnes (x := f 0)
  refine (Finset.sum_congr rfl fun k _ => congrArg (fun b => Scalar.select b
    (x (ix2 i k) * Host.gather gather_S64x256x512_S512x1_S512x256x512_12_0_n_n_0_1_1256512 W l (ix3 i k j)) 0)
    ((hf _).trans (known_eq (l (ix2 i 0))))).trans ?_
  rw [← hl]
  unfold wanted
  split
  · rename_i h
    exact Finset.sum_congr rfl fun k _ => congrArg (x (ix2 i k) * ·) (gather_at W l i k j h)
  · exact Finset.sum_const_zero

end Cert.ReferenceIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

set_option maxRecDepth 100000 in
/-- The two programs' kernels are the same text. -/
theorem bodies_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (Nat.not_lt.2 (Nat.le_add_left _ _))

set_option maxRecDepth 100000 in
/-- So are the programs around them. -/
theorem defs_eq : Cert.Kernel.defs (F := Bits) = Cert.KernelIdeal.defs (F := Bits) := by
  unfold Cert.Kernel.defs Cert.KernelIdeal.defs
  rw [bodies_eq]; rfl

set_option maxRecDepth 100000 in
/-- The kernel ends with its arguments unchanged and every counter at zero: its text is the ideal program's, whose
    run is proved for any float values. -/
theorem frame_kernel : Cert.quiescent_Kernel := fun m ρ _ => by
  rw [defs_eq]
  exact (θ_run Cert.KernelIdeal.defs _ _).mono (fun _ h => ⟨fun c => (h.1 c).2, h.2⟩) (Cert.KernelIdeal.Moe.run_main (F := Bits) m ρ)

/-- So does the ideal program. -/
theorem frame_ideal : Cert.quiescent_KernelIdeal := fun m ρ _ =>
  (θ_run Cert.KernelIdeal.defs _ _).mono (fun _ h => ⟨fun c => (h.1 c).2, h.2⟩) (Cert.KernelIdeal.Moe.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments, the weights partitioned, every device ends with the reference's result. -/
theorem algebraic : Cert.algebraic_KernelIdeal_ReferenceIdeal := fun m g m' g' _ hm => by
  refine ⟨Cert.ReferenceIdeal.Moe.reference (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ h c => ⟨(h.1 c).1.trans ?_, (h.1 c).2⟩) (Cert.KernelIdeal.Moe.run_main (F := Ideal) m g),
    (θ_run Cert.ReferenceIdeal.defs _ _).mono (fun _ h => h 0) (Cert.ReferenceIdeal.Value.run (F := Ideal) m' g')⟩
  refine funext fun y => ?_
  obtain ⟨i, j, rfl⟩ : ∃ (i j : Fin 512), y = ix2 i j :=
    ⟨y 0, y 1, funext fun a => match a with | ⟨0, _⟩ => rfl | ⟨1, _⟩ => rfl⟩
  exact (Cert.KernelIdeal.Moe.result_at m _ _ _ (fun c => (hm c).1) (fun c => (hm c).2.2.1) (fun c => (hm c).2.2.2) i j).trans
    (Cert.ReferenceIdeal.Moe.reference_at _ _ _ i j).symm

theorem claim : Cert.Claim := ⟨Cert.Kernel.Gen.facts, Cert.KernelIdeal.Gen.facts, Cert.ReferenceIdeal.Gen.facts,
  frame_kernel, frame_ideal, frame_reference, trivial, algebraic⟩

end Cert.Proof

end
